-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32x512 : Shape := ⟨3, ![2, 32, 512]⟩
abbrev S512x2048 : Shape := ⟨2, ![512, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S64x2048x512 : Shape := ⟨3, ![64, 2048, 512]⟩
abbrev S64x2048x1 : Shape := ⟨3, ![64, 2048, 1]⟩
abbrev S64x512x1 : Shape := ⟨3, ![64, 512, 1]⟩
abbrev S64x512 : Shape := ⟨2, ![64, 512]⟩
abbrev S64x1x2048 : Shape := ⟨3, ![64, 1, 2048]⟩
abbrev S64x1x512 : Shape := ⟨3, ![64, 1, 512]⟩
abbrev S64x2x1024x512 : Shape := ⟨4, ![64, 2, 1024, 512]⟩
abbrev S1x2048 : Shape := ⟨2, ![1, 2048]⟩
abbrev S1x64 : Shape := ⟨2, ![1, 64]⟩
abbrev S64x2048 : Shape := ⟨2, ![64, 2048]⟩
abbrev S64x64 : Shape := ⟨2, ![64, 64]⟩
abbrev S64x1 : Shape := ⟨2, ![64, 1]⟩
abbrev S3x1x1x1024x512 : Shape := ⟨5, ![3, 1, 1, 1024, 512]⟩
abbrev S3 : Shape := ⟨1, ![3]⟩
abbrev S1 : Shape := ⟨1, ![1]⟩
abbrev S_ : Shape := ⟨0, ![]⟩
abbrev S1x1x1x1024x512 : Shape := ⟨5, ![1, 1, 1, 1024, 512]⟩
abbrev S1x1x1024x512 : Shape := ⟨4, ![1, 1, 1024, 512]⟩
abbrev S1x1x2048 : Shape := ⟨3, ![1, 1, 2048]⟩
abbrev S1024x512 : Shape := ⟨2, ![1024, 512]⟩
abbrev S64x1024 : Shape := ⟨2, ![64, 1024]⟩
abbrev S1x1024 : Shape := ⟨2, ![1, 1024]⟩
abbrev S1x1x512 : Shape := ⟨3, ![1, 1, 512]⟩
abbrev S1x512 : Shape := ⟨2, ![1, 512]⟩

abbrev nBuf : Space → Nat
  | .hbm => 21
  | .vmem => 14
  | .smem => 0
  | _ => 0

abbrev bufTy : (tb : Table) → Fin (tcTables nBuf tb) → BufTy
  | .hbm, ⟨0, _⟩ => ⟨S2x32x512, .f32⟩
  | .hbm, ⟨1, _⟩ => ⟨S512x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S64x2048x512, .f32⟩
  | .hbm, ⟨8, _⟩ => ⟨S64x2048x512, .f32⟩
  | .hbm, ⟨9, _⟩ => ⟨S64x2048x1, .f32⟩
  | .hbm, ⟨10, _⟩ => ⟨S64x512x1, .f32⟩
  | .hbm, ⟨11, _⟩ => ⟨S64x512, .f32⟩
  | .hbm, ⟨12, _⟩ => ⟨S64x1x2048, .f32⟩
  | .hbm, ⟨13, _⟩ => ⟨S64x1x512, .f32⟩
  | .hbm, ⟨14, _⟩ => ⟨S64x2x1024x512, .f32⟩
  | .hbm, ⟨15, _⟩ => ⟨S64x2x1024x512, .f32⟩
  | .hbm, ⟨16, _⟩ => ⟨S1x2048, .f32⟩
  | .hbm, ⟨17, _⟩ => ⟨S1x2048, .f32⟩
  | .hbm, ⟨18, _⟩ => ⟨S1x64, .f32⟩
  | .hbm, ⟨19, _⟩ => ⟨S64x512, .f32⟩
  | .hbm, ⟨20, _⟩ => ⟨S2x32x512, .f32⟩
  | .local _ .vmem, ⟨0, _⟩ => ⟨S64x512, .f32⟩
  | .local _ .vmem, ⟨1, _⟩ => ⟨S512x2048, .f32⟩
  | .local _ .vmem, ⟨2, _⟩ => ⟨S1x2048, .f32⟩
  | .local _ .vmem, ⟨3, _⟩ => ⟨S2048x2048, .f32⟩
  | .local _ .vmem, ⟨4, _⟩ => ⟨S1x2048, .f32⟩
  | .local _ .vmem, ⟨5, _⟩ => ⟨S2048x64, .f32⟩
  | .local _ .vmem, ⟨6, _⟩ => ⟨S1x64, .f32⟩
  | .local _ .vmem, ⟨7, _⟩ => ⟨S64x1x2048, .f32⟩
  | .local _ .vmem, ⟨8, _⟩ => ⟨S64x1x512, .f32⟩
  | .local _ .vmem, ⟨9, _⟩ => ⟨S64x512, .f32⟩
  | .local _ .vmem, ⟨10, _⟩ => ⟨S3x1x1x1024x512, .f32⟩
  | .local _ .vmem, ⟨11, _⟩ => ⟨S3x1x1x1024x512, .f32⟩
  | .local _ .vmem, ⟨12, _⟩ => ⟨S3x1x1x1024x512, .f32⟩
  | .local _ .vmem, ⟨13, _⟩ => ⟨S3x1x1x1024x512, .f32⟩
  | _, _ => ⟨S2x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scoped0 : Ref sig .tc := ⟨.vmem, 10, rfl⟩
abbrev cc0_scoped2 : Ref sig .tc := ⟨.vmem, 11, rfl⟩
abbrev cc0_scoped4 : Ref sig .tc := ⟨.vmem, 12, rfl⟩
abbrev cc0_scoped6 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

def k0_off1 : Fin 1 → Nat :=
  let c0_i32_50_r0 : BitVec 32 := 0#32
  let c3_i32_r0 : BitVec 32 := 3#32
  let v88_r0 : BitVec 32 := Scalar.remui c0_i32_50_r0 c3_i32_r0
  ![v88_r0.toNat]
def k0_off2 : Fin 5 → Nat :=
  let c0_i32_50_r0 : BitVec 32 := 0#32
  let c3_i32_r0 : BitVec 32 := 3#32
  let v88_r0 : BitVec 32 := Scalar.remui c0_i32_50_r0 c3_i32_r0
  let c0_i32_51_r0 : BitVec 32 := 0#32
  let c0_i32_52_r0 : BitVec 32 := 0#32
  let c0_i32_53_r0 : BitVec 32 := 0#32
  let c0_i32_54_r0 : BitVec 32 := 0#32
  ![v88_r0.toNat, 0, 0, 0, 0]
def k0_cond1 : BitVec 1 :=
  let true_98_r0 : BitVec 1 := 1#1
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let c0_i32_97_r0 : BitVec 32 := 0#32
  let v116_r0 : BitVec 1 := Scalar.cmpi .ne v77_r0 c0_i32_97_r0
  let v117_r0 : BitVec 1 := Scalar.andi true_98_r0 v116_r0
  let true_99_r0 : BitVec 1 := 1#1
  let v118_r0 : BitVec 1 := Scalar.andi v117_r0 true_99_r0
  let v119_r0 : BitVec 32 := Scalar.extui v118_r0
  let c0_i32_100_r0 : BitVec 32 := 0#32
  let v120_r0 : BitVec 1 := Scalar.cmpi .ne v119_r0 c0_i32_100_r0
  v120_r0

def k0_off3 : Fin 1 → Nat :=
  let c0_i32_59_r0 : BitVec 32 := 0#32
  let c1_i32_60_r0 : BitVec 32 := 1#32
  let v94_r0 : BitVec 32 := Scalar.addi c0_i32_59_r0 c1_i32_60_r0
  let c3_i32_151_r0 : BitVec 32 := 3#32
  let v171_r0 : BitVec 32 := Scalar.remui v94_r0 c3_i32_151_r0
  ![v171_r0.toNat]
def k0_off4 : Fin 5 → Nat :=
  let c0_i32_59_r0 : BitVec 32 := 0#32
  let c1_i32_60_r0 : BitVec 32 := 1#32
  let v94_r0 : BitVec 32 := Scalar.addi c0_i32_59_r0 c1_i32_60_r0
  let c3_i32_151_r0 : BitVec 32 := 3#32
  let v171_r0 : BitVec 32 := Scalar.remui v94_r0 c3_i32_151_r0
  let c0_i32_153_r0 : BitVec 32 := 0#32
  let c0_i32_154_r0 : BitVec 32 := 0#32
  let c0_i32_155_r0 : BitVec 32 := 0#32
  let c0_i32_156_r0 : BitVec 32 := 0#32
  ![v171_r0.toNat, 0, 0, 0, 0]
def k0_off5 : Fin 4 → Nat :=
  let c1_i32_152_r0 : BitVec 32 := 1#32
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let v172_r0 : BitVec 32 := Scalar.muli c1_i32_152_r0 v77_r0
  let c0_i32_157_r0 : BitVec 32 := 0#32
  let c0_i32_158_r0 : BitVec 32 := 0#32
  let c0_i32_159_r0 : BitVec 32 := 0#32
  ![v172_r0.toNat, 0, 0, 0]
def k0_cond2 : BitVec 1 :=
  let true_103_r0 : BitVec 1 := 1#1
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let c0_i32_102_r0 : BitVec 32 := 0#32
  let v123_r0 : BitVec 1 := Scalar.cmpi .ne v77_r0 c0_i32_102_r0
  let v124_r0 : BitVec 1 := Scalar.andi true_103_r0 v123_r0
  let true_104_r0 : BitVec 1 := 1#1
  let v125_r0 : BitVec 1 := Scalar.andi v124_r0 true_104_r0
  let v126_r0 : BitVec 32 := Scalar.extui v125_r0
  let c0_i32_105_r0 : BitVec 32 := 0#32
  let v127_r0 : BitVec 1 := Scalar.cmpi .ne v126_r0 c0_i32_105_r0
  v127_r0

def k0_off6 : Fin 1 → Nat :=
  let c0_i32_71_r0 : BitVec 32 := 0#32
  let c1_i32_72_r0 : BitVec 32 := 1#32
  let v101_r0 : BitVec 32 := Scalar.addi c0_i32_71_r0 c1_i32_72_r0
  let c3_i32_151_r0 : BitVec 32 := 3#32
  let v171_r0 : BitVec 32 := Scalar.remui v101_r0 c3_i32_151_r0
  ![v171_r0.toNat]
def k0_off7 : Fin 5 → Nat :=
  let c0_i32_71_r0 : BitVec 32 := 0#32
  let c1_i32_72_r0 : BitVec 32 := 1#32
  let v101_r0 : BitVec 32 := Scalar.addi c0_i32_71_r0 c1_i32_72_r0
  let c3_i32_151_r0 : BitVec 32 := 3#32
  let v171_r0 : BitVec 32 := Scalar.remui v101_r0 c3_i32_151_r0
  let c0_i32_153_r0 : BitVec 32 := 0#32
  let c0_i32_154_r0 : BitVec 32 := 0#32
  let c0_i32_155_r0 : BitVec 32 := 0#32
  let c0_i32_156_r0 : BitVec 32 := 0#32
  ![v171_r0.toNat, 0, 0, 0, 0]
def k0_off8 : Fin 4 → Nat :=
  let c1_i32_152_r0 : BitVec 32 := 1#32
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let v172_r0 : BitVec 32 := Scalar.muli c1_i32_152_r0 v77_r0
  let c1_i32_157_r0 : BitVec 32 := 1#32
  let c0_i32_158_r0 : BitVec 32 := 0#32
  let c0_i32_159_r0 : BitVec 32 := 0#32
  ![v172_r0.toNat, 1, 0, 0]
def k0_cond3 : BitVec 1 :=
  let true_108_r0 : BitVec 1 := 1#1
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let c0_i32_107_r0 : BitVec 32 := 0#32
  let v130_r0 : BitVec 1 := Scalar.cmpi .ne v77_r0 c0_i32_107_r0
  let v131_r0 : BitVec 1 := Scalar.andi true_108_r0 v130_r0
  let true_109_r0 : BitVec 1 := 1#1
  let v132_r0 : BitVec 1 := Scalar.andi v131_r0 true_109_r0
  let v133_r0 : BitVec 32 := Scalar.extui v132_r0
  let c0_i32_110_r0 : BitVec 32 := 0#32
  let v134_r0 : BitVec 1 := Scalar.cmpi .ne v133_r0 c0_i32_110_r0
  v134_r0

def k0_off9 : Fin 1 → Nat :=
  let c0_i32_83_r0 : BitVec 32 := 0#32
  let c1_i32_84_r0 : BitVec 32 := 1#32
  let v108_r0 : BitVec 32 := Scalar.addi c0_i32_83_r0 c1_i32_84_r0
  let c3_i32_151_r0 : BitVec 32 := 3#32
  let v171_r0 : BitVec 32 := Scalar.remui v108_r0 c3_i32_151_r0
  ![v171_r0.toNat]
def k0_off10 : Fin 5 → Nat :=
  let c0_i32_83_r0 : BitVec 32 := 0#32
  let c1_i32_84_r0 : BitVec 32 := 1#32
  let v108_r0 : BitVec 32 := Scalar.addi c0_i32_83_r0 c1_i32_84_r0
  let c3_i32_151_r0 : BitVec 32 := 3#32
  let v171_r0 : BitVec 32 := Scalar.remui v108_r0 c3_i32_151_r0
  let c0_i32_153_r0 : BitVec 32 := 0#32
  let c0_i32_154_r0 : BitVec 32 := 0#32
  let c0_i32_155_r0 : BitVec 32 := 0#32
  let c0_i32_156_r0 : BitVec 32 := 0#32
  ![v171_r0.toNat, 0, 0, 0, 0]
def k0_off11 : Fin 4 → Nat :=
  let c1_i32_152_r0 : BitVec 32 := 1#32
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let v172_r0 : BitVec 32 := Scalar.muli c1_i32_152_r0 v77_r0
  let c0_i32_157_r0 : BitVec 32 := 0#32
  let c0_i32_158_r0 : BitVec 32 := 0#32
  let c0_i32_159_r0 : BitVec 32 := 0#32
  ![v172_r0.toNat, 0, 0, 0]
def k0_cond4 : BitVec 1 :=
  let true_113_r0 : BitVec 1 := 1#1
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let c0_i32_112_r0 : BitVec 32 := 0#32
  let v137_r0 : BitVec 1 := Scalar.cmpi .ne v77_r0 c0_i32_112_r0
  let v138_r0 : BitVec 1 := Scalar.andi true_113_r0 v137_r0
  let true_114_r0 : BitVec 1 := 1#1
  let v139_r0 : BitVec 1 := Scalar.andi v138_r0 true_114_r0
  let v140_r0 : BitVec 32 := Scalar.extui v139_r0
  let c0_i32_115_r0 : BitVec 32 := 0#32
  let v141_r0 : BitVec 1 := Scalar.cmpi .ne v140_r0 c0_i32_115_r0
  v141_r0

def k0_off12 : Fin 1 → Nat :=
  let c0_i32_95_r0 : BitVec 32 := 0#32
  let c1_i32_96_r0 : BitVec 32 := 1#32
  let v115_r0 : BitVec 32 := Scalar.addi c0_i32_95_r0 c1_i32_96_r0
  let c3_i32_151_r0 : BitVec 32 := 3#32
  let v171_r0 : BitVec 32 := Scalar.remui v115_r0 c3_i32_151_r0
  ![v171_r0.toNat]
def k0_off13 : Fin 5 → Nat :=
  let c0_i32_95_r0 : BitVec 32 := 0#32
  let c1_i32_96_r0 : BitVec 32 := 1#32
  let v115_r0 : BitVec 32 := Scalar.addi c0_i32_95_r0 c1_i32_96_r0
  let c3_i32_151_r0 : BitVec 32 := 3#32
  let v171_r0 : BitVec 32 := Scalar.remui v115_r0 c3_i32_151_r0
  let c0_i32_153_r0 : BitVec 32 := 0#32
  let c0_i32_154_r0 : BitVec 32 := 0#32
  let c0_i32_155_r0 : BitVec 32 := 0#32
  let c0_i32_156_r0 : BitVec 32 := 0#32
  ![v171_r0.toNat, 0, 0, 0, 0]
def k0_off14 : Fin 4 → Nat :=
  let c1_i32_152_r0 : BitVec 32 := 1#32
  let true_35_r0 : BitVec 1 := 1#1
  let c1_i32_r0 : BitVec 32 := 1#32
  let c0_i32_36_r0 : BitVec 32 := 0#32
  let v74_r0 : BitVec 32 := Scalar.select true_35_r0 c1_i32_r0 c0_i32_36_r0
  let c64_i32_37_r0 : BitVec 32 := 64#32
  let v75_r0 : BitVec 1 := Scalar.cmpi .eq v74_r0 c64_i32_37_r0
  let c0_i32_38_r0 : BitVec 32 := 0#32
  let v76_r0 : BitVec 32 := Scalar.select v75_r0 c0_i32_38_r0 v74_r0
  let c0_i32_39_r0 : BitVec 32 := 0#32
  let v77_r0 : BitVec 32 := Scalar.addi v76_r0 c0_i32_39_r0
  let v172_r0 : BitVec 32 := Scalar.muli c1_i32_152_r0 v77_r0
  let c1_i32_157_r0 : BitVec 32 := 1#32
  let c0_i32_158_r0 : BitVec 32 := 0#32
  let c0_i32_159_r0 : BitVec 32 := 0#32
  ![v172_r0.toNat, 1, 0, 0]
@[reducible] def k0_t1_loop : Scf.Loop 32 :=
  let c0_i32_122_r0 : BitVec 32 := 0#32
  let c64_i32_123_r0 : BitVec 32 := 64#32
  let v144_r0 : BitVec 32 := Scalar.addi c0_i32_122_r0 c64_i32_123_r0
  let c1_i32_124_r0 : BitVec 32 := 1#32
  ⟨c0_i32_122_r0, v144_r0, c1_i32_124_r0⟩
def k0_off15 (arg13_r0 : BitVec 32) : Fin 1 → Nat :=
  let c3_i32_291_r0 : BitVec 32 := 3#32
  let v400_r0 : BitVec 32 := Scalar.remui arg13_r0 c3_i32_291_r0
  ![v400_r0.toNat]
def k0_cond5 (k0_t1 : Fin k0_t1_loop.trips) (arg21_r0 : BitVec 32) : BitVec 1 :=
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c0_i32_163_r0 : BitVec 32 := 0#32
  let v183_r0 : BitVec 32 := Scalar.addi v182_r0 c0_i32_163_r0
  let true_165_r0 : BitVec 1 := 1#1
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v194_r0 : BitVec 1 := Scalar.cmpi .ne v183_r0 v188_r0
  let c0_i32_122_r0 : BitVec 32 := 0#32
  let c1_i32_124_r0 : BitVec 32 := 1#32
  let arg12_r0 : BitVec 32 := Scf.iv c0_i32_122_r0 c1_i32_124_r0 k0_t1
  let c62_i32_r0 : BitVec 32 := 62#32
  let v195_r0 : BitVec 1 := Scalar.cmpi .sge arg12_r0 c62_i32_r0
  let true_174_r0 : BitVec 1 := 1#1
  let v196_r0 : BitVec 1 := Scalar.xori v195_r0 true_174_r0
  let v197_r0 : BitVec 1 := Scalar.andi v194_r0 v196_r0
  let true_175_r0 : BitVec 1 := 1#1
  let v198_r0 : BitVec 1 := Scalar.andi v197_r0 true_175_r0
  let v199_r0 : BitVec 32 := Scalar.extui v198_r0
  let c0_i32_176_r0 : BitVec 32 := 0#32
  let v200_r0 : BitVec 1 := Scalar.cmpi .ne v199_r0 c0_i32_176_r0
  v200_r0

def k0_off16 (arg13_r0 : BitVec 32) : Fin 5 → Nat :=
  let c3_i32_291_r0 : BitVec 32 := 3#32
  let v400_r0 : BitVec 32 := Scalar.remui arg13_r0 c3_i32_291_r0
  let c0_i32_293_r0 : BitVec 32 := 0#32
  let c0_i32_294_r0 : BitVec 32 := 0#32
  let c0_i32_295_r0 : BitVec 32 := 0#32
  let c0_i32_296_r0 : BitVec 32 := 0#32
  ![v400_r0.toNat, 0, 0, 0, 0]
def k0_off17 (arg21_r0 : BitVec 32) : Fin 4 → Nat :=
  let c1_i32_292_r0 : BitVec 32 := 1#32
  let true_165_r0 : BitVec 1 := 1#1
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v401_r0 : BitVec 32 := Scalar.muli c1_i32_292_r0 v188_r0
  let c0_i32_297_r0 : BitVec 32 := 0#32
  let c0_i32_298_r0 : BitVec 32 := 0#32
  let c0_i32_299_r0 : BitVec 32 := 0#32
  ![v401_r0.toNat, 0, 0, 0]
def k0_off18 (arg15_r0 : BitVec 32) : Fin 1 → Nat :=
  let c3_i32_291_r0 : BitVec 32 := 3#32
  let v400_r0 : BitVec 32 := Scalar.remui arg15_r0 c3_i32_291_r0
  ![v400_r0.toNat]
def k0_cond6 (k0_t1 : Fin k0_t1_loop.trips) (arg21_r0 : BitVec 32) : BitVec 1 :=
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c0_i32_163_r0 : BitVec 32 := 0#32
  let v183_r0 : BitVec 32 := Scalar.addi v182_r0 c0_i32_163_r0
  let true_165_r0 : BitVec 1 := 1#1
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v204_r0 : BitVec 1 := Scalar.cmpi .ne v183_r0 v188_r0
  let c0_i32_122_r0 : BitVec 32 := 0#32
  let c1_i32_124_r0 : BitVec 32 := 1#32
  let arg12_r0 : BitVec 32 := Scf.iv c0_i32_122_r0 c1_i32_124_r0 k0_t1
  let c62_i32_179_r0 : BitVec 32 := 62#32
  let v205_r0 : BitVec 1 := Scalar.cmpi .sge arg12_r0 c62_i32_179_r0
  let true_180_r0 : BitVec 1 := 1#1
  let v206_r0 : BitVec 1 := Scalar.xori v205_r0 true_180_r0
  let v207_r0 : BitVec 1 := Scalar.andi v204_r0 v206_r0
  let true_181_r0 : BitVec 1 := 1#1
  let v208_r0 : BitVec 1 := Scalar.andi v207_r0 true_181_r0
  let v209_r0 : BitVec 32 := Scalar.extui v208_r0
  let c0_i32_182_r0 : BitVec 32 := 0#32
  let v210_r0 : BitVec 1 := Scalar.cmpi .ne v209_r0 c0_i32_182_r0
  v210_r0

def k0_off19 (arg15_r0 : BitVec 32) : Fin 5 → Nat :=
  let c3_i32_291_r0 : BitVec 32 := 3#32
  let v400_r0 : BitVec 32 := Scalar.remui arg15_r0 c3_i32_291_r0
  let c0_i32_293_r0 : BitVec 32 := 0#32
  let c0_i32_294_r0 : BitVec 32 := 0#32
  let c0_i32_295_r0 : BitVec 32 := 0#32
  let c0_i32_296_r0 : BitVec 32 := 0#32
  ![v400_r0.toNat, 0, 0, 0, 0]
def k0_off20 (arg21_r0 : BitVec 32) : Fin 4 → Nat :=
  let c1_i32_292_r0 : BitVec 32 := 1#32
  let true_165_r0 : BitVec 1 := 1#1
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v401_r0 : BitVec 32 := Scalar.muli c1_i32_292_r0 v188_r0
  let c1_i32_297_r0 : BitVec 32 := 1#32
  let c0_i32_298_r0 : BitVec 32 := 0#32
  let c0_i32_299_r0 : BitVec 32 := 0#32
  ![v401_r0.toNat, 1, 0, 0]
def k0_off21 (arg17_r0 : BitVec 32) : Fin 1 → Nat :=
  let c3_i32_291_r0 : BitVec 32 := 3#32
  let v400_r0 : BitVec 32 := Scalar.remui arg17_r0 c3_i32_291_r0
  ![v400_r0.toNat]
def k0_cond7 (k0_t1 : Fin k0_t1_loop.trips) (arg21_r0 : BitVec 32) : BitVec 1 :=
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c0_i32_163_r0 : BitVec 32 := 0#32
  let v183_r0 : BitVec 32 := Scalar.addi v182_r0 c0_i32_163_r0
  let true_165_r0 : BitVec 1 := 1#1
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v214_r0 : BitVec 1 := Scalar.cmpi .ne v183_r0 v188_r0
  let c0_i32_122_r0 : BitVec 32 := 0#32
  let c1_i32_124_r0 : BitVec 32 := 1#32
  let arg12_r0 : BitVec 32 := Scf.iv c0_i32_122_r0 c1_i32_124_r0 k0_t1
  let c62_i32_185_r0 : BitVec 32 := 62#32
  let v215_r0 : BitVec 1 := Scalar.cmpi .sge arg12_r0 c62_i32_185_r0
  let true_186_r0 : BitVec 1 := 1#1
  let v216_r0 : BitVec 1 := Scalar.xori v215_r0 true_186_r0
  let v217_r0 : BitVec 1 := Scalar.andi v214_r0 v216_r0
  let true_187_r0 : BitVec 1 := 1#1
  let v218_r0 : BitVec 1 := Scalar.andi v217_r0 true_187_r0
  let v219_r0 : BitVec 32 := Scalar.extui v218_r0
  let c0_i32_188_r0 : BitVec 32 := 0#32
  let v220_r0 : BitVec 1 := Scalar.cmpi .ne v219_r0 c0_i32_188_r0
  v220_r0

def k0_off22 (arg17_r0 : BitVec 32) : Fin 5 → Nat :=
  let c3_i32_291_r0 : BitVec 32 := 3#32
  let v400_r0 : BitVec 32 := Scalar.remui arg17_r0 c3_i32_291_r0
  let c0_i32_293_r0 : BitVec 32 := 0#32
  let c0_i32_294_r0 : BitVec 32 := 0#32
  let c0_i32_295_r0 : BitVec 32 := 0#32
  let c0_i32_296_r0 : BitVec 32 := 0#32
  ![v400_r0.toNat, 0, 0, 0, 0]
def k0_off23 (arg21_r0 : BitVec 32) : Fin 4 → Nat :=
  let c1_i32_292_r0 : BitVec 32 := 1#32
  let true_165_r0 : BitVec 1 := 1#1
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v401_r0 : BitVec 32 := Scalar.muli c1_i32_292_r0 v188_r0
  let c0_i32_297_r0 : BitVec 32 := 0#32
  let c0_i32_298_r0 : BitVec 32 := 0#32
  let c0_i32_299_r0 : BitVec 32 := 0#32
  ![v401_r0.toNat, 0, 0, 0]
def k0_off24 (arg19_r0 : BitVec 32) : Fin 1 → Nat :=
  let c3_i32_291_r0 : BitVec 32 := 3#32
  let v400_r0 : BitVec 32 := Scalar.remui arg19_r0 c3_i32_291_r0
  ![v400_r0.toNat]
def k0_cond8 (k0_t1 : Fin k0_t1_loop.trips) (arg21_r0 : BitVec 32) : BitVec 1 :=
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c0_i32_163_r0 : BitVec 32 := 0#32
  let v183_r0 : BitVec 32 := Scalar.addi v182_r0 c0_i32_163_r0
  let true_165_r0 : BitVec 1 := 1#1
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v224_r0 : BitVec 1 := Scalar.cmpi .ne v183_r0 v188_r0
  let c0_i32_122_r0 : BitVec 32 := 0#32
  let c1_i32_124_r0 : BitVec 32 := 1#32
  let arg12_r0 : BitVec 32 := Scf.iv c0_i32_122_r0 c1_i32_124_r0 k0_t1
  let c62_i32_191_r0 : BitVec 32 := 62#32
  let v225_r0 : BitVec 1 := Scalar.cmpi .sge arg12_r0 c62_i32_191_r0
  let true_192_r0 : BitVec 1 := 1#1
  let v226_r0 : BitVec 1 := Scalar.xori v225_r0 true_192_r0
  let v227_r0 : BitVec 1 := Scalar.andi v224_r0 v226_r0
  let true_193_r0 : BitVec 1 := 1#1
  let v228_r0 : BitVec 1 := Scalar.andi v227_r0 true_193_r0
  let v229_r0 : BitVec 32 := Scalar.extui v228_r0
  let c0_i32_194_r0 : BitVec 32 := 0#32
  let v230_r0 : BitVec 1 := Scalar.cmpi .ne v229_r0 c0_i32_194_r0
  v230_r0

def k0_off25 (arg19_r0 : BitVec 32) : Fin 5 → Nat :=
  let c3_i32_291_r0 : BitVec 32 := 3#32
  let v400_r0 : BitVec 32 := Scalar.remui arg19_r0 c3_i32_291_r0
  let c0_i32_293_r0 : BitVec 32 := 0#32
  let c0_i32_294_r0 : BitVec 32 := 0#32
  let c0_i32_295_r0 : BitVec 32 := 0#32
  let c0_i32_296_r0 : BitVec 32 := 0#32
  ![v400_r0.toNat, 0, 0, 0, 0]
def k0_off26 (arg21_r0 : BitVec 32) : Fin 4 → Nat :=
  let c1_i32_292_r0 : BitVec 32 := 1#32
  let true_165_r0 : BitVec 1 := 1#1
  let true_160_r0 : BitVec 1 := 1#1
  let c1_i32_159_r0 : BitVec 32 := 1#32
  let v179_r0 : BitVec 32 := Scalar.addi arg21_r0 c1_i32_159_r0
  let v180_r0 : BitVec 32 := Scalar.select true_160_r0 v179_r0 arg21_r0
  let c64_i32_161_r0 : BitVec 32 := 64#32
  let v181_r0 : BitVec 1 := Scalar.cmpi .eq v180_r0 c64_i32_161_r0
  let c0_i32_162_r0 : BitVec 32 := 0#32
  let v182_r0 : BitVec 32 := Scalar.select v181_r0 c0_i32_162_r0 v180_r0
  let c1_i32_164_r0 : BitVec 32 := 1#32
  let v184_r0 : BitVec 32 := Scalar.addi v182_r0 c1_i32_164_r0
  let v185_r0 : BitVec 32 := Scalar.select true_165_r0 v184_r0 v182_r0
  let c64_i32_166_r0 : BitVec 32 := 64#32
  let v186_r0 : BitVec 1 := Scalar.cmpi .eq v185_r0 c64_i32_166_r0
  let c0_i32_167_r0 : BitVec 32 := 0#32
  let v187_r0 : BitVec 32 := Scalar.select v186_r0 c0_i32_167_r0 v185_r0
  let c0_i32_168_r0 : BitVec 32 := 0#32
  let v188_r0 : BitVec 32 := Scalar.addi v187_r0 c0_i32_168_r0
  let v401_r0 : BitVec 32 := Scalar.muli c1_i32_292_r0 v188_r0
  let c1_i32_297_r0 : BitVec 32 := 1#32
  let c0_i32_298_r0 : BitVec 32 := 0#32
  let c0_i32_299_r0 : BitVec 32 := 0#32
  ![v401_r0.toNat, 1, 0, 0]
def k0_off27 (arg14_r0 : BitVec 32) : Fin 1 → Nat :=
  let c3_i32_292_r0 : BitVec 32 := 3#32
  let v401_r0 : BitVec 32 := Scalar.remui arg14_r0 c3_i32_292_r0
  ![v401_r0.toNat]
def k0_cond9 (k0_t1 : Fin k0_t1_loop.trips) (arg21_r0 : BitVec 32) : BitVec 1 :=
  let c0_i32_153_r0 : BitVec 32 := 0#32
  let v173_r0 : BitVec 32 := Scalar.addi arg21_r0 c0_i32_153_r0
  let true_155_r0 : BitVec 1 := 1#1
  let c1_i32_154_r0 : BitVec 32 := 1#32
  let v174_r0 : BitVec 32 := Scalar.subi arg21_r0 c1_i32_154_r0
  let v175_r0 : BitVec 32 := Scalar.select true_155_r0 v174_r0 arg21_r0
  let c_m1_i32_156_r0 : BitVec 32 := 4294967295#32
  let v176_r0 : BitVec 1 := Scalar.cmpi .eq v175_r0 c_m1_i32_156_r0
  let c63_i32_157_r0 : BitVec 32 := 63#32
  let v177_r0 : BitVec 32 := Scalar.select v176_r0 c63_i32_157_r0 v175_r0
  let c0_i32_158_r0 : BitVec 32 := 0#32
  let v178_r0 : BitVec 32 := Scalar.addi v177_r0 c0_i32_158_r0
  let v234_r0 : BitVec 1 := Scalar.cmpi .ne v173_r0 v178_r0
  let c0_i32_122_r0 : BitVec 32 := 0#32
  let c1_i32_124_r0 : BitVec 32 := 1#32
  let arg12_r0 : BitVec 32 := Scf.iv c0_i32_122_r0 c1_i32_124_r0 k0_t1
  let c0_i32_151_r0 : BitVec 32 := 0#32
  let v171_r0 : BitVec 1 := Scalar.cmpi .eq arg12_r0 c0_i32_151_r0
  let v235_r0 : BitVec 1 := Scalar.ori v234_r0 v171_r0
  let c0_i32_197_r0 : BitVec 32 := 0#32
  let v236_r0 : BitVec 1 := Scalar.cmpi .sge arg12_r0 c0_i32_197_r0
  let v237_r0 : BitVec 1 := Scalar.andi v235_r0 v236_r0
  let v238_r0 : BitVec 32 := Scalar.extui v237_r0
  let c0_i32_198_r0 : BitVec 32 := 0#32
  let v239_r0 : BitVec 1 := Scalar.cmpi .ne v238_r0 c0_i32_198_r0
  v239_r0

def k0_off28 (arg14_r0 : BitVec 32) : Fin 5 → Nat :=
  let c3_i32_292_r0 : BitVec 32 := 3#32
  let v401_r0 : BitVec 32 := Scalar.remui arg14_r0 c3_i32_292_r0
  let c0_i32_293_r0 : BitVec 32 := 0#32
  let c0_i32_294_r0 : BitVec 32 := 0#32
  let c0_i32_295_r0 : BitVec 32 := 0#32
  let c0_i32_296_r0 : BitVec 32 := 0#32
  ![v401_r0.toNat, 0, 0, 0, 0]
def k0_off29 (arg21_r0 : BitVec 32) : Fin 4 → Nat :=
  let c1_i32_291_r0 : BitVec 32 := 1#32
  let c0_i32_153_r0 : BitVec 32 := 0#32
  let v173_r0 : BitVec 32 := Scalar.addi arg21_r0 c0_i32_153_r0
  let v400_r0 : BitVec 32 := Scalar.muli c1_i32_291_r0 v173_r0
  let c0_i32_297_r0 : BitVec 32 := 0#32
  let c0_i32_298_r0 : BitVec 32 := 0#32
  let c0_i32_299_r0 : BitVec 32 := 0#32
  ![v400_r0.toNat, 0, 0, 0]
def k0_off30 (arg16_r0 : BitVec 32) : Fin 1 → Nat :=
  let c3_i32_292_r0 : BitVec 32 := 3#32
  let v401_r0 : BitVec 32 := Scalar.remui arg16_r0 c3_i32_292_r0
  ![v401_r0.toNat]
def k0_cond10 (k0_t1 : Fin k0_t1_loop.trips) (arg21_r0 : BitVec 32) : BitVec 1 :=
  let c0_i32_153_r0 : BitVec 32 := 0#32
  let v173_r0 : BitVec 32 := Scalar.addi arg21_r0 c0_i32_153_r0
  let true_155_r0 : BitVec 1 := 1#1
  let c1_i32_154_r0 : BitVec 32 := 1#32
  let v174_r0 : BitVec 32 := Scalar.subi arg21_r0 c1_i32_154_r0
  let v175_r0 : BitVec 32 := Scalar.select true_155_r0 v174_r0 arg21_r0
  let c_m1_i32_156_r0 : BitVec 32 := 4294967295#32
  let v176_r0 : BitVec 1 := Scalar.cmpi .eq v175_r0 c_m1_i32_156_r0
  let c63_i32_157_r0 : BitVec 32 := 63#32
  let v177_r0 : BitVec 32 := Scalar.select v176_r0 c63_i32_157_r0 v175_r0
  let c0_i32_158_r0 : BitVec 32 := 0#32
  let v178_r0 : BitVec 32 := Scalar.addi v177_r0 c0_i32_158_r0
  let v240_r0 : BitVec 1 := Scalar.cmpi .ne v173_r0 v178_r0
  let c0_i32_122_r0 : BitVec 32 := 0#32
  let c1_i32_124_r0 : BitVec 32 := 1#32
  let arg12_r0 : BitVec 32 := Scf.iv c0_i32_122_r0 c1_i32_124_r0 k0_t1
  let c0_i32_151_r0 : BitVec 32 := 0#32
  let v171_r0 : BitVec 1 := Scalar.cmpi .eq arg12_r0 c0_i32_151_r0
  let v241_r0 : BitVec 1 := Scalar.ori v240_r0 v171_r0
  let c0_i32_199_r0 : BitVec 32 := 0#32
  let v242_r0 : BitVec 1 := Scalar.cmpi .sge arg12_r0 c0_i32_199_r0
  let v243_r0 : BitVec 1 := Scalar.andi v241_r0 v242_r0
  let v244_r0 : BitVec 32 := Scalar.extui v243_r0
  let c0_i32_200_r0 : BitVec 32 := 0#32
  let v245_r0 : BitVec 1 := Scalar.cmpi .ne v244_r0 c0_i32_200_r0
  v245_r0

def k0_off31 (arg16_r0 : BitVec 32) : Fin 5 → Nat :=
  let c3_i32_292_r0 : BitVec 32 := 3#32
  let v401_r0 : BitVec 32 := Scalar.remui arg16_r0 c3_i32_292_r0
  let c0_i32_293_r0 : BitVec 32 := 0#32
  let c0_i32_294_r0 : BitVec 32 := 0#32
  let c0_i32_295_r0 : BitVec 32 := 0#32
  let c0_i32_296_r0 : BitVec 32 := 0#32
  ![v401_r0.toNat, 0, 0, 0, 0]
def k0_off32 (arg21_r0 : BitVec 32) : Fin 4 → Nat :=
  let c1_i32_291_r0 : BitVec 32 := 1#32
  let c0_i32_153_r0 : BitVec 32 := 0#32
  let v173_r0 : BitVec 32 := Scalar.addi arg21_r0 c0_i32_153_r0
  let v400_r0 : BitVec 32 := Scalar.muli c1_i32_291_r0 v173_r0
  let c1_i32_297_r0 : BitVec 32 := 1#32
  let c0_i32_298_r0 : BitVec 32 := 0#32
  let c0_i32_299_r0 : BitVec 32 := 0#32
  ![v400_r0.toNat, 1, 0, 0]
def k0_off33 (arg18_r0 : BitVec 32) : Fin 1 → Nat :=
  let c3_i32_292_r0 : BitVec 32 := 3#32
  let v401_r0 : BitVec 32 := Scalar.remui arg18_r0 c3_i32_292_r0
  ![v401_r0.toNat]
def k0_cond11 (k0_t1 : Fin k0_t1_loop.trips) (arg21_r0 : BitVec 32) : BitVec 1 :=
  let c0_i32_153_r0 : BitVec 32 := 0#32
  let v173_r0 : BitVec 32 := Scalar.addi arg21_r0 c0_i32_153_r0
  let true_155_r0 : BitVec 1 := 1#1
  let c1_i32_154_r0 : BitVec 32 := 1#32
  let v174_r0 : BitVec 32 := Scalar.subi arg21_r0 c1_i32_154_r0
  let v175_r0 : BitVec 32 := Scalar.select true_155_r0 v174_r0 arg21_r0
  let c_m1_i32_156_r0 : BitVec 32 := 4294967295#32
  let v176_r0 : BitVec 1 := Scalar.cmpi .eq v175_r0 c_m1_i32_156_r0
  let c63_i32_157_r0 : BitVec 32 := 63#32
  let v177_r0 : BitVec 32 := Scalar.select v176_r0 c63_i32_157_r0 v175_r0
  let c0_i32_158_r0 : BitVec 32 := 0#32
  let v178_r0 : BitVec 32 := Scalar.addi v177_r0 c0_i32_158_r0
  let v246_r0 : BitVec 1 := Scalar.cmpi .ne v173_r0 v178_r0
  let c0_i32_122_r0 : BitVec 32 := 0#32
  let c1_i32_124_r0 : BitVec 32 := 1#32
  let arg12_r0 : BitVec 32 := Scf.iv c0_i32_122_r0 c1_i32_124_r0 k0_t1
  let c0_i32_151_r0 : BitVec 32 := 0#32
  let v171_r0 : BitVec 1 := Scalar.cmpi .eq arg12_r0 c0_i32_151_r0
  let v247_r0 : BitVec 1 := Scalar.ori v246_r0 v171_r0
  let c0_i32_201_r0 : BitVec 32 := 0#32
  let v248_r0 : BitVec 1 := Scalar.cmpi .sge arg12_r0 c0_i32_201_r0
  let v249_r0 : BitVec 1 := Scalar.andi v247_r0 v248_r0
  let v250_r0 : BitVec 32 := Scalar.extui v249_r0
  let c0_i32_202_r0 : BitVec 32 := 0#32
  let v251_r0 : BitVec 1 := Scalar.cmpi .ne v250_r0 c0_i32_202_r0
  v251_r0

def k0_off34 (arg18_r0 : BitVec 32) : Fin 5 → Nat :=
  let c3_i32_292_r0 : BitVec 32 := 3#32
  let v401_r0 : BitVec 32 := Scalar.remui arg18_r0 c3_i32_292_r0
  let c0_i32_293_r0 : BitVec 32 := 0#32
  let c0_i32_294_r0 : BitVec 32 := 0#32
  let c0_i32_295_r0 : BitVec 32 := 0#32
  let c0_i32_296_r0 : BitVec 32 := 0#32
  ![v401_r0.toNat, 0, 0, 0, 0]
def k0_off35 (arg21_r0 : BitVec 32) : Fin 4 → Nat :=
  let c1_i32_291_r0 : BitVec 32 := 1#32
  let c0_i32_153_r0 : BitVec 32 := 0#32
  let v173_r0 : BitVec 32 := Scalar.addi arg21_r0 c0_i32_153_r0
  let v400_r0 : BitVec 32 := Scalar.muli c1_i32_291_r0 v173_r0
  let c0_i32_297_r0 : BitVec 32 := 0#32
  let c0_i32_298_r0 : BitVec 32 := 0#32
  let c0_i32_299_r0 : BitVec 32 := 0#32
  ![v400_r0.toNat, 0, 0, 0]
def k0_off36 (arg20_r0 : BitVec 32) : Fin 1 → Nat :=
  let c3_i32_292_r0 : BitVec 32 := 3#32
  let v401_r0 : BitVec 32 := Scalar.remui arg20_r0 c3_i32_292_r0
  ![v401_r0.toNat]
def k0_cond12 (k0_t1 : Fin k0_t1_loop.trips) (arg21_r0 : BitVec 32) : BitVec 1 :=
  let c0_i32_153_r0 : BitVec 32 := 0#32
  let v173_r0 : BitVec 32 := Scalar.addi arg21_r0 c0_i32_153_r0
  let true_155_r0 : BitVec 1 := 1#1
  let c1_i32_154_r0 : BitVec 32 := 1#32
  let v174_r0 : BitVec 32 := Scalar.subi arg21_r0 c1_i32_154_r0
  let v175_r0 : BitVec 32 := Scalar.select true_155_r0 v174_r0 arg21_r0
  let c_m1_i32_156_r0 : BitVec 32 := 4294967295#32
  let v176_r0 : BitVec 1 := Scalar.cmpi .eq v175_r0 c_m1_i32_156_r0
  let c63_i32_157_r0 : BitVec 32 := 63#32
  let v177_r0 : BitVec 32 := Scalar.select v176_r0 c63_i32_157_r0 v175_r0
  let c0_i32_158_r0 : BitVec 32 := 0#32
  let v178_r0 : BitVec 32 := Scalar.addi v177_r0 c0_i32_158_r0
  let v252_r0 : BitVec 1 := Scalar.cmpi .ne v173_r0 v178_r0
  let c0_i32_122_r0 : BitVec 32 := 0#32
  let c1_i32_124_r0 : BitVec 32 := 1#32
  let arg12_r0 : BitVec 32 := Scf.iv c0_i32_122_r0 c1_i32_124_r0 k0_t1
  let c0_i32_151_r0 : BitVec 32 := 0#32
  let v171_r0 : BitVec 1 := Scalar.cmpi .eq arg12_r0 c0_i32_151_r0
  let v253_r0 : BitVec 1 := Scalar.ori v252_r0 v171_r0
  let c0_i32_203_r0 : BitVec 32 := 0#32
  let v254_r0 : BitVec 1 := Scalar.cmpi .sge arg12_r0 c0_i32_203_r0
  let v255_r0 : BitVec 1 := Scalar.andi v253_r0 v254_r0
  let v256_r0 : BitVec 32 := Scalar.extui v255_r0
  let c0_i32_204_r0 : BitVec 32 := 0#32
  let v257_r0 : BitVec 1 := Scalar.cmpi .ne v256_r0 c0_i32_204_r0
  v257_r0

def k0_off37 (arg20_r0 : BitVec 32) : Fin 5 → Nat :=
  let c3_i32_292_r0 : BitVec 32 := 3#32
  let v401_r0 : BitVec 32 := Scalar.remui arg20_r0 c3_i32_292_r0
  let c0_i32_293_r0 : BitVec 32 := 0#32
  let c0_i32_294_r0 : BitVec 32 := 0#32
  let c0_i32_295_r0 : BitVec 32 := 0#32
  let c0_i32_296_r0 : BitVec 32 := 0#32
  ![v401_r0.toNat, 0, 0, 0, 0]
def k0_off38 (arg21_r0 : BitVec 32) : Fin 4 → Nat :=
  let c1_i32_291_r0 : BitVec 32 := 1#32
  let c0_i32_153_r0 : BitVec 32 := 0#32
  let v173_r0 : BitVec 32 := Scalar.addi arg21_r0 c0_i32_153_r0
  let v400_r0 : BitVec 32 := Scalar.muli c1_i32_291_r0 v173_r0
  let c1_i32_297_r0 : BitVec 32 := 1#32
  let c0_i32_298_r0 : BitVec 32 := 0#32
  let c0_i32_299_r0 : BitVec 32 := 0#32
  ![v400_r0.toNat, 1, 0, 0]
def k0_off39 (arg21_r0 : BitVec 32) : Fin 3 → Nat :=
  let c0_i32_153_r0 : BitVec 32 := 0#32
  let v173_r0 : BitVec 32 := Scalar.addi arg21_r0 c0_i32_153_r0
  let v262_r0 : Index := Scalar.indexCast v173_r0
  let c0_209_r0 : Index := 0#32
  let c0_210_r0 : Index := 0#32
  ![v262_r0.toNat, 0, 0]
def k0_off40 (arg14_r0 : BitVec 32) : Fin 5 → Nat :=
  let c3_i32_205_r0 : BitVec 32 := 3#32
  let v258_r0 : BitVec 32 := Scalar.remui arg14_r0 c3_i32_205_r0
  let c0_i32_211_r0 : BitVec 32 := 0#32
  let c0_i32_212_r0 : BitVec 32 := 0#32
  let c0_i32_213_r0 : BitVec 32 := 0#32
  let c0_i32_214_r0 : BitVec 32 := 0#32
  ![v258_r0.toNat, 0, 0, 0, 0]

def k0_chk2 (arg14_r0 : BitVec 32) : Prop :=
  (∀ a, (k0_off40 arg14_r0) a + S1x1x1x1024x512.size a ≤ S3x1x1x1024x512.size a)
theorem k0_off40_inb : ∀ (arg14_r0 : BitVec 32) (k0_hw2 : k0_chk2 arg14_r0), ∀ a, (k0_off40 arg14_r0) a + S1x1x1x1024x512.size a ≤ S3x1x1x1024x512.size a := fun arg14_r0 k0_hw2 => k0_hw2

def k0_off41 (arg16_r0 : BitVec 32) : Fin 5 → Nat :=
  let c3_i32_206_r0 : BitVec 32 := 3#32
  let v259_r0 : BitVec 32 := Scalar.remui arg16_r0 c3_i32_206_r0
  let c0_i32_223_r0 : BitVec 32 := 0#32
  let c0_i32_224_r0 : BitVec 32 := 0#32
  let c0_i32_225_r0 : BitVec 32 := 0#32
  let c0_i32_226_r0 : BitVec 32 := 0#32
  ![v259_r0.toNat, 0, 0, 0, 0]

def k0_chk3 (arg16_r0 : BitVec 32) : Prop :=
  (∀ a, (k0_off41 arg16_r0) a + S1x1x1x1024x512.size a ≤ S3x1x1x1024x512.size a)
theorem k0_off41_inb : ∀ (arg16_r0 : BitVec 32) (k0_hw3 : k0_chk3 arg16_r0), ∀ a, (k0_off41 arg16_r0) a + S1x1x1x1024x512.size a ≤ S3x1x1x1024x512.size a := fun arg16_r0 k0_hw3 => k0_hw3

def k0_off42 (arg18_r0 : BitVec 32) : Fin 5 → Nat :=
  let c3_i32_207_r0 : BitVec 32 := 3#32
  let v260_r0 : BitVec 32 := Scalar.remui arg18_r0 c3_i32_207_r0
  let c0_i32_235_r0 : BitVec 32 := 0#32
  let c0_i32_236_r0 : BitVec 32 := 0#32
  let c0_i32_237_r0 : BitVec 32 := 0#32
  let c0_i32_238_r0 : BitVec 32 := 0#32
  ![v260_r0.toNat, 0, 0, 0, 0]

def k0_chk4 (arg18_r0 : BitVec 32) : Prop :=
  (∀ a, (k0_off42 arg18_r0) a + S1x1x1x1024x512.size a ≤ S3x1x1x1024x512.size a)
theorem k0_off42_inb : ∀ (arg18_r0 : BitVec 32) (k0_hw4 : k0_chk4 arg18_r0), ∀ a, (k0_off42 arg18_r0) a + S1x1x1x1024x512.size a ≤ S3x1x1x1024x512.size a := fun arg18_r0 k0_hw4 => k0_hw4

def k0_off43 (arg20_r0 : BitVec 32) : Fin 5 → Nat :=
  let c3_i32_208_r0 : BitVec 32 := 3#32
  let v261_r0 : BitVec 32 := Scalar.remui arg20_r0 c3_i32_208_r0
  let c0_i32_244_r0 : BitVec 32 := 0#32
  let c0_i32_245_r0 : BitVec 32 := 0#32
  let c0_i32_246_r0 : BitVec 32 := 0#32
  let c0_i32_247_r0 : BitVec 32 := 0#32
  ![v261_r0.toNat, 0, 0, 0, 0]

def k0_chk5 (arg20_r0 : BitVec 32) : Prop :=
  (∀ a, (k0_off43 arg20_r0) a + S1x1x1x1024x512.size a ≤ S3x1x1x1024x512.size a)
theorem k0_off43_inb : ∀ (arg20_r0 : BitVec 32) (k0_hw5 : k0_chk5 arg20_r0), ∀ a, (k0_off43 arg20_r0) a + S1x1x1x1024x512.size a ≤ S3x1x1x1024x512.size a := fun arg20_r0 k0_hw5 => k0_hw5

def k0_off44 (arg21_r0 : BitVec 32) : Fin 3 → Nat :=
  let c0_i32_153_r0 : BitVec 32 := 0#32
  let v173_r0 : BitVec 32 := Scalar.addi arg21_r0 c0_i32_153_r0
  let v308_r0 : Index := Scalar.indexCast v173_r0
  let c0_253_r0 : Index := 0#32
  let c0_254_r0 : Index := 0#32
  ![v308_r0.toNat, 0, 0]

def k0_chk1 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k0_h5 : k0_cond5 k0_t1 arg21_r0 = 1#1), ∀ a, (k0_off15 arg13_r0) a + S1.size a ≤ S3.size a) ∧
  (∀ (k0_h5 : k0_cond5 k0_t1 arg21_r0 = 1#1), ∀ a, (k0_off16 arg13_r0) a + S1x1x1x1024x512.size a ≤ S3x1x1x1024x512.size a) ∧
  (∀ (k0_h5 : k0_cond5 k0_t1 arg21_r0 = 1#1), ∀ a, (k0_off17 arg21_r0) a + S1x1x1024x512.size a ≤ S64x2x1024x512.size a) ∧
  (∀ (k0_h6 : k0_cond6 k0_t1 arg21_r0 = 1#1), ∀ a, (k0_off18 arg15_r0) a + S1.size a ≤ S3.size a) ∧
  (∀ (k0_h6 : k0_cond6 k0_t1 arg21_r0 = 1#1), ∀ a, (k0_off19 arg15_r0) a + S1x1x1x1024x512.size a ≤ S3x1x1x1024x512.size a) ∧
  (∀ (k0_h6 : k0_cond6 k0_t1 arg21_r0 = 1#1), ∀ a, (k0_off20 arg21_r0) a + S1x1x1024x512.size a ≤ S64x2x1024x512.size a) ∧
  (∀ (k0_h7 : k0_cond7 k0_t1 arg21_r0 = 1#1), ∀ a, (k0_off21 arg17_r0) a + S1.size a ≤ S3.size a) ∧
  (∀ (k0_h7 : k0_cond7 k0_t1 arg21_r0 = 1#1), ∀ a, (k0_off22 arg17_r0) a + S1x1x1x1024x512.size a ≤ S3x1x1x1024x512.size a) ∧
  (∀ (k0_h7 : k0_cond7 k0_t1 arg21_r0 = 1#1), ∀ a, (k0_off23 arg21_r0) a + S1x1x1024x512.size a ≤ S64x2x1024x512.size a) ∧
  (∀ (k0_h8 : k0_cond8 k0_t1 arg21_r0 = 1#1), ∀ a, (k0_off24 arg19_r0) a + S1.size a ≤ S3.size a) ∧
  (∀ (k0_h8 : k0_cond8 k0_t1 arg21_r0 = 1#1), ∀ a, (k0_off25 arg19_r0) a + S1x1x1x1024x512.size a ≤ S3x1x1x1024x512.size a) ∧
  (∀ (k0_h8 : k0_cond8 k0_t1 arg21_r0 = 1#1), ∀ a, (k0_off26 arg21_r0) a + S1x1x1024x512.size a ≤ S64x2x1024x512.size a) ∧
  (∀ (k0_h9 : k0_cond9 k0_t1 arg21_r0 = 1#1), ∀ a, (k0_off27 arg14_r0) a + S1.size a ≤ S3.size a) ∧
  (∀ (k0_h9 : k0_cond9 k0_t1 arg21_r0 = 1#1), ∀ a, (k0_off28 arg14_r0) a + S1x1x1x1024x512.size a ≤ S3x1x1x1024x512.size a) ∧
  (∀ (k0_h9 : k0_cond9 k0_t1 arg21_r0 = 1#1), ∀ a, (k0_off29 arg21_r0) a + S1x1x1024x512.size a ≤ S64x2x1024x512.size a) ∧
  (∀ (k0_h10 : k0_cond10 k0_t1 arg21_r0 = 1#1), ∀ a, (k0_off30 arg16_r0) a + S1.size a ≤ S3.size a) ∧
  (∀ (k0_h10 : k0_cond10 k0_t1 arg21_r0 = 1#1), ∀ a, (k0_off31 arg16_r0) a + S1x1x1x1024x512.size a ≤ S3x1x1x1024x512.size a) ∧
  (∀ (k0_h10 : k0_cond10 k0_t1 arg21_r0 = 1#1), ∀ a, (k0_off32 arg21_r0) a + S1x1x1024x512.size a ≤ S64x2x1024x512.size a) ∧
  (∀ (k0_h11 : k0_cond11 k0_t1 arg21_r0 = 1#1), ∀ a, (k0_off33 arg18_r0) a + S1.size a ≤ S3.size a) ∧
  (∀ (k0_h11 : k0_cond11 k0_t1 arg21_r0 = 1#1), ∀ a, (k0_off34 arg18_r0) a + S1x1x1x1024x512.size a ≤ S3x1x1x1024x512.size a) ∧
  (∀ (k0_h11 : k0_cond11 k0_t1 arg21_r0 = 1#1), ∀ a, (k0_off35 arg21_r0) a + S1x1x1024x512.size a ≤ S64x2x1024x512.size a) ∧
  (∀ (k0_h12 : k0_cond12 k0_t1 arg21_r0 = 1#1), ∀ a, (k0_off36 arg20_r0) a + S1.size a ≤ S3.size a) ∧
  (∀ (k0_h12 : k0_cond12 k0_t1 arg21_r0 = 1#1), ∀ a, (k0_off37 arg20_r0) a + S1x1x1x1024x512.size a ≤ S3x1x1x1024x512.size a) ∧
  (∀ (k0_h12 : k0_cond12 k0_t1 arg21_r0 = 1#1), ∀ a, (k0_off38 arg21_r0) a + S1x1x1024x512.size a ≤ S64x2x1024x512.size a) ∧
  (∀ a, (k0_off39 arg21_r0) a + S1x1x2048.size a ≤ S64x1x2048.size a) ∧
  (∀ a, (k0_off44 arg21_r0) a + S1x1x512.size a ≤ S64x1x512.size a)
theorem k0_off15_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h5 : k0_cond5 k0_t1 arg21_r0 = 1#1), ∀ a, (k0_off15 arg13_r0) a + S1.size a ≤ S3.size a := fun k0_t1 arg13_r0 arg14_r0 arg15_r0 arg16_r0 arg17_r0 arg18_r0 arg19_r0 arg20_r0 arg21_r0 k0_hw1 k0_h5 => k0_hw1.1 k0_h5
theorem k0_off16_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h5 : k0_cond5 k0_t1 arg21_r0 = 1#1), ∀ a, (k0_off16 arg13_r0) a + S1x1x1x1024x512.size a ≤ S3x1x1x1024x512.size a := fun k0_t1 arg13_r0 arg14_r0 arg15_r0 arg16_r0 arg17_r0 arg18_r0 arg19_r0 arg20_r0 arg21_r0 k0_hw1 k0_h5 => k0_hw1.2.1 k0_h5
theorem k0_off17_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h5 : k0_cond5 k0_t1 arg21_r0 = 1#1), ∀ a, (k0_off17 arg21_r0) a + S1x1x1024x512.size a ≤ S64x2x1024x512.size a := fun k0_t1 arg13_r0 arg14_r0 arg15_r0 arg16_r0 arg17_r0 arg18_r0 arg19_r0 arg20_r0 arg21_r0 k0_hw1 k0_h5 => k0_hw1.2.2.1 k0_h5
theorem k0_off18_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h6 : k0_cond6 k0_t1 arg21_r0 = 1#1), ∀ a, (k0_off18 arg15_r0) a + S1.size a ≤ S3.size a := fun k0_t1 arg13_r0 arg14_r0 arg15_r0 arg16_r0 arg17_r0 arg18_r0 arg19_r0 arg20_r0 arg21_r0 k0_hw1 k0_h6 => k0_hw1.2.2.2.1 k0_h6
theorem k0_off19_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h6 : k0_cond6 k0_t1 arg21_r0 = 1#1), ∀ a, (k0_off19 arg15_r0) a + S1x1x1x1024x512.size a ≤ S3x1x1x1024x512.size a := fun k0_t1 arg13_r0 arg14_r0 arg15_r0 arg16_r0 arg17_r0 arg18_r0 arg19_r0 arg20_r0 arg21_r0 k0_hw1 k0_h6 => k0_hw1.2.2.2.2.1 k0_h6
theorem k0_off20_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h6 : k0_cond6 k0_t1 arg21_r0 = 1#1), ∀ a, (k0_off20 arg21_r0) a + S1x1x1024x512.size a ≤ S64x2x1024x512.size a := fun k0_t1 arg13_r0 arg14_r0 arg15_r0 arg16_r0 arg17_r0 arg18_r0 arg19_r0 arg20_r0 arg21_r0 k0_hw1 k0_h6 => k0_hw1.2.2.2.2.2.1 k0_h6
theorem k0_off21_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h7 : k0_cond7 k0_t1 arg21_r0 = 1#1), ∀ a, (k0_off21 arg17_r0) a + S1.size a ≤ S3.size a := fun k0_t1 arg13_r0 arg14_r0 arg15_r0 arg16_r0 arg17_r0 arg18_r0 arg19_r0 arg20_r0 arg21_r0 k0_hw1 k0_h7 => k0_hw1.2.2.2.2.2.2.1 k0_h7
theorem k0_off22_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h7 : k0_cond7 k0_t1 arg21_r0 = 1#1), ∀ a, (k0_off22 arg17_r0) a + S1x1x1x1024x512.size a ≤ S3x1x1x1024x512.size a := fun k0_t1 arg13_r0 arg14_r0 arg15_r0 arg16_r0 arg17_r0 arg18_r0 arg19_r0 arg20_r0 arg21_r0 k0_hw1 k0_h7 => k0_hw1.2.2.2.2.2.2.2.1 k0_h7
theorem k0_off23_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h7 : k0_cond7 k0_t1 arg21_r0 = 1#1), ∀ a, (k0_off23 arg21_r0) a + S1x1x1024x512.size a ≤ S64x2x1024x512.size a := fun k0_t1 arg13_r0 arg14_r0 arg15_r0 arg16_r0 arg17_r0 arg18_r0 arg19_r0 arg20_r0 arg21_r0 k0_hw1 k0_h7 => k0_hw1.2.2.2.2.2.2.2.2.1 k0_h7
theorem k0_off24_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h8 : k0_cond8 k0_t1 arg21_r0 = 1#1), ∀ a, (k0_off24 arg19_r0) a + S1.size a ≤ S3.size a := fun k0_t1 arg13_r0 arg14_r0 arg15_r0 arg16_r0 arg17_r0 arg18_r0 arg19_r0 arg20_r0 arg21_r0 k0_hw1 k0_h8 => k0_hw1.2.2.2.2.2.2.2.2.2.1 k0_h8
theorem k0_off25_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h8 : k0_cond8 k0_t1 arg21_r0 = 1#1), ∀ a, (k0_off25 arg19_r0) a + S1x1x1x1024x512.size a ≤ S3x1x1x1024x512.size a := fun k0_t1 arg13_r0 arg14_r0 arg15_r0 arg16_r0 arg17_r0 arg18_r0 arg19_r0 arg20_r0 arg21_r0 k0_hw1 k0_h8 => k0_hw1.2.2.2.2.2.2.2.2.2.2.1 k0_h8
theorem k0_off26_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h8 : k0_cond8 k0_t1 arg21_r0 = 1#1), ∀ a, (k0_off26 arg21_r0) a + S1x1x1024x512.size a ≤ S64x2x1024x512.size a := fun k0_t1 arg13_r0 arg14_r0 arg15_r0 arg16_r0 arg17_r0 arg18_r0 arg19_r0 arg20_r0 arg21_r0 k0_hw1 k0_h8 => k0_hw1.2.2.2.2.2.2.2.2.2.2.2.1 k0_h8
theorem k0_off27_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h9 : k0_cond9 k0_t1 arg21_r0 = 1#1), ∀ a, (k0_off27 arg14_r0) a + S1.size a ≤ S3.size a := fun k0_t1 arg13_r0 arg14_r0 arg15_r0 arg16_r0 arg17_r0 arg18_r0 arg19_r0 arg20_r0 arg21_r0 k0_hw1 k0_h9 => k0_hw1.2.2.2.2.2.2.2.2.2.2.2.2.1 k0_h9
theorem k0_off28_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h9 : k0_cond9 k0_t1 arg21_r0 = 1#1), ∀ a, (k0_off28 arg14_r0) a + S1x1x1x1024x512.size a ≤ S3x1x1x1024x512.size a := fun k0_t1 arg13_r0 arg14_r0 arg15_r0 arg16_r0 arg17_r0 arg18_r0 arg19_r0 arg20_r0 arg21_r0 k0_hw1 k0_h9 => k0_hw1.2.2.2.2.2.2.2.2.2.2.2.2.2.1 k0_h9
theorem k0_off29_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h9 : k0_cond9 k0_t1 arg21_r0 = 1#1), ∀ a, (k0_off29 arg21_r0) a + S1x1x1024x512.size a ≤ S64x2x1024x512.size a := fun k0_t1 arg13_r0 arg14_r0 arg15_r0 arg16_r0 arg17_r0 arg18_r0 arg19_r0 arg20_r0 arg21_r0 k0_hw1 k0_h9 => k0_hw1.2.2.2.2.2.2.2.2.2.2.2.2.2.2.1 k0_h9
theorem k0_off30_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h10 : k0_cond10 k0_t1 arg21_r0 = 1#1), ∀ a, (k0_off30 arg16_r0) a + S1.size a ≤ S3.size a := fun k0_t1 arg13_r0 arg14_r0 arg15_r0 arg16_r0 arg17_r0 arg18_r0 arg19_r0 arg20_r0 arg21_r0 k0_hw1 k0_h10 => k0_hw1.2.2.2.2.2.2.2.2.2.2.2.2.2.2.2.1 k0_h10
theorem k0_off31_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h10 : k0_cond10 k0_t1 arg21_r0 = 1#1), ∀ a, (k0_off31 arg16_r0) a + S1x1x1x1024x512.size a ≤ S3x1x1x1024x512.size a := fun k0_t1 arg13_r0 arg14_r0 arg15_r0 arg16_r0 arg17_r0 arg18_r0 arg19_r0 arg20_r0 arg21_r0 k0_hw1 k0_h10 => k0_hw1.2.2.2.2.2.2.2.2.2.2.2.2.2.2.2.2.1 k0_h10
theorem k0_off32_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h10 : k0_cond10 k0_t1 arg21_r0 = 1#1), ∀ a, (k0_off32 arg21_r0) a + S1x1x1024x512.size a ≤ S64x2x1024x512.size a := fun k0_t1 arg13_r0 arg14_r0 arg15_r0 arg16_r0 arg17_r0 arg18_r0 arg19_r0 arg20_r0 arg21_r0 k0_hw1 k0_h10 => k0_hw1.2.2.2.2.2.2.2.2.2.2.2.2.2.2.2.2.2.1 k0_h10
theorem k0_off33_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h11 : k0_cond11 k0_t1 arg21_r0 = 1#1), ∀ a, (k0_off33 arg18_r0) a + S1.size a ≤ S3.size a := fun k0_t1 arg13_r0 arg14_r0 arg15_r0 arg16_r0 arg17_r0 arg18_r0 arg19_r0 arg20_r0 arg21_r0 k0_hw1 k0_h11 => k0_hw1.2.2.2.2.2.2.2.2.2.2.2.2.2.2.2.2.2.2.1 k0_h11
theorem k0_off34_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h11 : k0_cond11 k0_t1 arg21_r0 = 1#1), ∀ a, (k0_off34 arg18_r0) a + S1x1x1x1024x512.size a ≤ S3x1x1x1024x512.size a := fun k0_t1 arg13_r0 arg14_r0 arg15_r0 arg16_r0 arg17_r0 arg18_r0 arg19_r0 arg20_r0 arg21_r0 k0_hw1 k0_h11 => k0_hw1.2.2.2.2.2.2.2.2.2.2.2.2.2.2.2.2.2.2.2.1 k0_h11
theorem k0_off35_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h11 : k0_cond11 k0_t1 arg21_r0 = 1#1), ∀ a, (k0_off35 arg21_r0) a + S1x1x1024x512.size a ≤ S64x2x1024x512.size a := fun k0_t1 arg13_r0 arg14_r0 arg15_r0 arg16_r0 arg17_r0 arg18_r0 arg19_r0 arg20_r0 arg21_r0 k0_hw1 k0_h11 => k0_hw1.2.2.2.2.2.2.2.2.2.2.2.2.2.2.2.2.2.2.2.2.1 k0_h11
theorem k0_off36_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h12 : k0_cond12 k0_t1 arg21_r0 = 1#1), ∀ a, (k0_off36 arg20_r0) a + S1.size a ≤ S3.size a := fun k0_t1 arg13_r0 arg14_r0 arg15_r0 arg16_r0 arg17_r0 arg18_r0 arg19_r0 arg20_r0 arg21_r0 k0_hw1 k0_h12 => k0_hw1.2.2.2.2.2.2.2.2.2.2.2.2.2.2.2.2.2.2.2.2.2.1 k0_h12
theorem k0_off37_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h12 : k0_cond12 k0_t1 arg21_r0 = 1#1), ∀ a, (k0_off37 arg20_r0) a + S1x1x1x1024x512.size a ≤ S3x1x1x1024x512.size a := fun k0_t1 arg13_r0 arg14_r0 arg15_r0 arg16_r0 arg17_r0 arg18_r0 arg19_r0 arg20_r0 arg21_r0 k0_hw1 k0_h12 => k0_hw1.2.2.2.2.2.2.2.2.2.2.2.2.2.2.2.2.2.2.2.2.2.2.1 k0_h12
theorem k0_off38_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ (k0_h12 : k0_cond12 k0_t1 arg21_r0 = 1#1), ∀ a, (k0_off38 arg21_r0) a + S1x1x1024x512.size a ≤ S64x2x1024x512.size a := fun k0_t1 arg13_r0 arg14_r0 arg15_r0 arg16_r0 arg17_r0 arg18_r0 arg19_r0 arg20_r0 arg21_r0 k0_hw1 k0_h12 => k0_hw1.2.2.2.2.2.2.2.2.2.2.2.2.2.2.2.2.2.2.2.2.2.2.2.1 k0_h12
theorem k0_off39_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ a, (k0_off39 arg21_r0) a + S1x1x2048.size a ≤ S64x1x2048.size a := fun k0_t1 arg13_r0 arg14_r0 arg15_r0 arg16_r0 arg17_r0 arg18_r0 arg19_r0 arg20_r0 arg21_r0 k0_hw1 => k0_hw1.2.2.2.2.2.2.2.2.2.2.2.2.2.2.2.2.2.2.2.2.2.2.2.2.1
theorem k0_off44_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw1 : k0_chk1 k0_t1 arg13_r0 arg14_r0 arg15_r0 arg16_r0 arg17_r0 arg18_r0 arg19_r0 arg20_r0 arg21_r0), ∀ a, (k0_off44 arg21_r0) a + S1x1x512.size a ≤ S64x1x512.size a := fun k0_t1 arg13_r0 arg14_r0 arg15_r0 arg16_r0 arg17_r0 arg18_r0 arg19_r0 arg20_r0 arg21_r0 k0_hw1 => k0_hw1.2.2.2.2.2.2.2.2.2.2.2.2.2.2.2.2.2.2.2.2.2.2.2.2.2

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x32x512 : Shape := ⟨3, ![2, 32, 512]⟩
abbrev S512x2048 : Shape := ⟨2, ![512, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S64x2048x512 : Shape := ⟨3, ![64, 2048, 512]⟩
abbrev S64x2048x1 : Shape := ⟨3, ![64, 2048, 1]⟩
abbrev S64x512x1 : Shape := ⟨3, ![64, 512, 1]⟩
abbrev S2x32x2048 : Shape := ⟨3, ![2, 32, 2048]⟩
abbrev S1x1x2048 : Shape := ⟨3, ![1, 1, 2048]⟩
abbrev S_ : Shape := ⟨0, ![]⟩
abbrev S2x32x64 : Shape := ⟨3, ![2, 32, 64]⟩
abbrev S1x1x64 : Shape := ⟨3, ![1, 1, 64]⟩
abbrev S2x32x2 : Shape := ⟨3, ![2, 32, 2]⟩
abbrev S2x32 : Shape := ⟨2, ![2, 32]⟩
abbrev S2x32x1 : Shape := ⟨3, ![2, 32, 1]⟩
abbrev S2x32x2x1 : Shape := ⟨4, ![2, 32, 2, 1]⟩
abbrev S2x32x2x2048x512 : Shape := ⟨5, ![2, 32, 2, 2048, 512]⟩
abbrev S2x32x2x2048x1 : Shape := ⟨5, ![2, 32, 2, 2048, 1]⟩
abbrev S2x32x2x512x1 : Shape := ⟨5, ![2, 32, 2, 512, 1]⟩
abbrev S2x32x1x512x1 : Shape := ⟨5, ![2, 32, 1, 512, 1]⟩
abbrev S2x32x512x1 : Shape := ⟨4, ![2, 32, 512, 1]⟩
abbrev S2x32x2x512x2048 : Shape := ⟨5, ![2, 32, 2, 512, 2048]⟩
abbrev S2x32x2x512 : Shape := ⟨4, ![2, 32, 2, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x32x512, .f32⟩
  | .hbm, ⟨1, _⟩ => ⟨S512x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S64x2048x512, .f32⟩
  | .hbm, ⟨8, _⟩ => ⟨S64x2048x512, .f32⟩
  | .hbm, ⟨9, _⟩ => ⟨S64x2048x1, .f32⟩
  | .hbm, ⟨10, _⟩ => ⟨S64x512x1, .f32⟩
  | .hbm, ⟨11, _⟩ => ⟨S2x32x2048, .f32⟩
  | .hbm, ⟨12, _⟩ => ⟨S1x1x2048, .f32⟩
  | .hbm, ⟨13, _⟩ => ⟨S2x32x2048, .f32⟩
  | .hbm, ⟨14, _⟩ => ⟨S2x32x2048, .f32⟩
  | .hbm, ⟨15, _⟩ => ⟨S_, .f32⟩
  | .hbm, ⟨16, _⟩ => ⟨S2x32x2048, .f32⟩
  | .hbm, ⟨17, _⟩ => ⟨S2x32x2048, .f32⟩
  | .hbm, ⟨18, _⟩ => ⟨S2x32x2048, .f32⟩
  | .hbm, ⟨19, _⟩ => ⟨S_, .f32⟩
  | .hbm, ⟨20, _⟩ => ⟨S2x32x2048, .f32⟩
  | .hbm, ⟨21, _⟩ => ⟨S2x32x2048, .f32⟩
  | .hbm, ⟨22, _⟩ => ⟨S2x32x2048, .f32⟩
  | .hbm, ⟨23, _⟩ => ⟨S2x32x2048, .f32⟩
  | .hbm, ⟨24, _⟩ => ⟨S2x32x2048, .f32⟩
  | .hbm, ⟨25, _⟩ => ⟨S1x1x2048, .f32⟩
  | .hbm, ⟨26, _⟩ => ⟨S2x32x2048, .f32⟩
  | .hbm, ⟨27, _⟩ => ⟨S2x32x2048, .f32⟩
  | .hbm, ⟨28, _⟩ => ⟨S_, .f32⟩
  | .hbm, ⟨29, _⟩ => ⟨S2x32x2048, .f32⟩
  | .hbm, ⟨30, _⟩ => ⟨S2x32x2048, .f32⟩
  | .hbm, ⟨31, _⟩ => ⟨S2x32x2048, .f32⟩
  | .hbm, ⟨32, _⟩ => ⟨S_, .f32⟩
  | .hbm, ⟨33, _⟩ => ⟨S2x32x2048, .f32⟩
  | .hbm, ⟨34, _⟩ => ⟨S2x32x2048, .f32⟩
  | .hbm, ⟨35, _⟩ => ⟨S2x32x2048, .f32⟩
  | .hbm, ⟨36, _⟩ => ⟨S2x32x2048, .f32⟩
  | .hbm, ⟨37, _⟩ => ⟨S2x32x64, .f32⟩
  | .hbm, ⟨38, _⟩ => ⟨S1x1x64, .f32⟩
  | .hbm, ⟨39, _⟩ => ⟨S2x32x64, .f32⟩
  | .hbm, ⟨40, _⟩ => ⟨S2x32x64, .f32⟩
  | .hbm, ⟨41, _⟩ => ⟨S2x32x64, .f32⟩
  | .hbm, ⟨42, _⟩ => ⟨S2x32x64, .f32⟩
  | .hbm, ⟨43, _⟩ => ⟨S_, .f32⟩
  | .hbm, ⟨44, _⟩ => ⟨S2x32x64, .f32⟩
  | .hbm, ⟨45, _⟩ => ⟨S2x32x64, .f32⟩
  | .hbm, ⟨46, _⟩ => ⟨S_, .f32⟩
  | .hbm, ⟨47, _⟩ => ⟨S2x32x64, .f32⟩
  | .hbm, ⟨48, _⟩ => ⟨S2x32x64, .f32⟩
  | .hbm, ⟨49, _⟩ => ⟨S2x32x2, .f32⟩
  | .hbm, ⟨50, _⟩ => ⟨S2x32x2, .i32⟩
  | .hbm, ⟨51, _⟩ => ⟨S_, .f32⟩
  | .hbm, ⟨52, _⟩ => ⟨S2x32, .f32⟩
  | .hbm, ⟨53, _⟩ => ⟨S2x32x1, .f32⟩
  | .hbm, ⟨54, _⟩ => ⟨S2x32x2, .f32⟩
  | .hbm, ⟨55, _⟩ => ⟨S2x32x2, .f32⟩
  | .hbm, ⟨56, _⟩ => ⟨S_, .i32⟩
  | .hbm, ⟨57, _⟩ => ⟨S2x32x2, .i32⟩
  | .hbm, ⟨58, _⟩ => ⟨S2x32x2, .i1⟩
  | .hbm, ⟨59, _⟩ => ⟨S_, .i32⟩
  | .hbm, ⟨60, _⟩ => ⟨S2x32x2, .i32⟩
  | .hbm, ⟨61, _⟩ => ⟨S2x32x2, .i32⟩
  | .hbm, ⟨62, _⟩ => ⟨S2x32x2, .i32⟩
  | .hbm, ⟨63, _⟩ => ⟨S2x32x2x1, .i32⟩
  | .hbm, ⟨64, _⟩ => ⟨S2x32x2x2048x512, .f32⟩
  | .hbm, ⟨65, _⟩ => ⟨S_, .i32⟩
  | .hbm, ⟨66, _⟩ => ⟨S2x32x2, .i32⟩
  | .hbm, ⟨67, _⟩ => ⟨S2x32x2, .i1⟩
  | .hbm, ⟨68, _⟩ => ⟨S_, .i32⟩
  | .hbm, ⟨69, _⟩ => ⟨S2x32x2, .i32⟩
  | .hbm, ⟨70, _⟩ => ⟨S2x32x2, .i32⟩
  | .hbm, ⟨71, _⟩ => ⟨S2x32x2, .i32⟩
  | .hbm, ⟨72, _⟩ => ⟨S2x32x2x1, .i32⟩
  | .hbm, ⟨73, _⟩ => ⟨S2x32x2x2048x512, .f32⟩
  | .hbm, ⟨74, _⟩ => ⟨S_, .i32⟩
  | .hbm, ⟨75, _⟩ => ⟨S2x32x2, .i32⟩
  | .hbm, ⟨76, _⟩ => ⟨S2x32x2, .i1⟩
  | .hbm, ⟨77, _⟩ => ⟨S_, .i32⟩
  | .hbm, ⟨78, _⟩ => ⟨S2x32x2, .i32⟩
  | .hbm, ⟨79, _⟩ => ⟨S2x32x2, .i32⟩
  | .hbm, ⟨80, _⟩ => ⟨S2x32x2, .i32⟩
  | .hbm, ⟨81, _⟩ => ⟨S2x32x2x1, .i32⟩
  | .hbm, ⟨82, _⟩ => ⟨S2x32x2x2048x1, .f32⟩
  | .hbm, ⟨83, _⟩ => ⟨S_, .i32⟩
  | .hbm, ⟨84, _⟩ => ⟨S2x32x2, .i32⟩
  | .hbm, ⟨85, _⟩ => ⟨S2x32x2, .i1⟩
  | .hbm, ⟨86, _⟩ => ⟨S_, .i32⟩
  | .hbm, ⟨87, _⟩ => ⟨S2x32x2, .i32⟩
  | .hbm, ⟨88, _⟩ => ⟨S2x32x2, .i32⟩
  | .hbm, ⟨89, _⟩ => ⟨S2x32x2, .i32⟩
  | .hbm, ⟨90, _⟩ => ⟨S2x32x2x1, .i32⟩
  | .hbm, ⟨91, _⟩ => ⟨S2x32x2x512x1, .f32⟩
  | .hbm, ⟨92, _⟩ => ⟨S2x32x1x512x1, .f32⟩
  | .hbm, ⟨93, _⟩ => ⟨S2x32x512x1, .f32⟩
  | .hbm, ⟨94, _⟩ => ⟨S2x32x2x2048x1, .f32⟩
  | .hbm, ⟨95, _⟩ => ⟨S2x32x2x2048x1, .f32⟩
  | .hbm, ⟨96, _⟩ => ⟨S_, .f32⟩
  | .hbm, ⟨97, _⟩ => ⟨S2x32x2x2048x1, .f32⟩
  | .hbm, ⟨98, _⟩ => ⟨S2x32x2x2048x1, .f32⟩
  | .hbm, ⟨99, _⟩ => ⟨S2x32x2x2048x1, .f32⟩
  | .hbm, ⟨100, _⟩ => ⟨S_, .f32⟩
  | .hbm, ⟨101, _⟩ => ⟨S2x32x2x2048x1, .f32⟩
  | .hbm, ⟨102, _⟩ => ⟨S2x32x2x2048x1, .f32⟩
  | .hbm, ⟨103, _⟩ => ⟨S2x32x2x2048x1, .f32⟩
  | .hbm, ⟨104, _⟩ => ⟨S2x32x2x2048x1, .f32⟩
  | .hbm, ⟨105, _⟩ => ⟨S2x32x2x512x2048, .f32⟩
  | .hbm, ⟨106, _⟩ => ⟨S2x32x2x512x1, .f32⟩
  | .hbm, ⟨107, _⟩ => ⟨S2x32x2x512x1, .f32⟩
  | .hbm, ⟨108, _⟩ => ⟨S_, .f32⟩
  | .hbm, ⟨109, _⟩ => ⟨S2x32x2x512x1, .f32⟩
  | .hbm, ⟨110, _⟩ => ⟨S2x32x2x512x1, .f32⟩
  | .hbm, ⟨111, _⟩ => ⟨S2x32x2x512x1, .f32⟩
  | .hbm, ⟨112, _⟩ => ⟨S_, .f32⟩
  | .hbm, ⟨113, _⟩ => ⟨S2x32x2x512x1, .f32⟩
  | .hbm, ⟨114, _⟩ => ⟨S2x32x2x512x1, .f32⟩
  | .hbm, ⟨115, _⟩ => ⟨S2x32x2x512x1, .f32⟩
  | .hbm, ⟨116, _⟩ => ⟨S2x32x2x512x1, .f32⟩
  | .hbm, ⟨117, _⟩ => ⟨S2x32x2x512, .f32⟩
  | .hbm, ⟨118, _⟩ => ⟨S2x32x2x1, .f32⟩
  | .hbm, ⟨119, _⟩ => ⟨S2x32x2x512, .f32⟩
  | .hbm, ⟨120, _⟩ => ⟨S2x32x2x512, .f32⟩
  | .hbm, ⟨121, _⟩ => ⟨S_, .f32⟩
  | .hbm, ⟨122, _⟩ => ⟨S2x32x512, .f32⟩
  | _, _ => ⟨S2x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_values : Ref sig .tc := ⟨.hbm, 49, rfl⟩
abbrev main_indices : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Proof.Names.lean ====
/-
  The names the proof gives to what the pipelined part of the kernel moves: block `(b, q)` of a weight array (expert `b`,
  half `q` of its hidden units), slot `s` of a three-slot buffer in vector memory, and slot `s`'s semaphore. The kernel
  spells each through counters the loop carries; the equations here say which block, slot and semaphore those are at
  every trip. Everything is stated once for any array, buffer and semaphore array: the four streams share it.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Moe

open Cert.KernelIdeal Cert.KernelIdeal.Gen
open Idealize.ShloMosaic
open Idealize.ShloMosaic.TcCoe Idealize.ShloMosaic.Tactic

/-! ## Block, slot and semaphore -/

abbrev blkOff (q : Fin 2) (b : Fin 64) : Fin 4 → Nat := ![b.val, q.val, 0, 0]
theorem blkOff_inb (q : Fin 2) (b : Fin 64) : ∀ a, blkOff q b a + S1x1x1024x512.size a ≤ S64x2x1024x512.size a := by
  have := b.isLt; have := q.isLt; intro a; fin_cases a
  · show b.val + 1 ≤ 64; omega
  · show q.val + 1 ≤ 2; omega
  · show 0 + 1024 ≤ 1024; omega
  · show 0 + 512 ≤ 512; omega
abbrev slotOff (s : Fin 3) : Fin 5 → Nat := ![s.val, 0, 0, 0, 0]
theorem slotOff_inb (s : Fin 3) : ∀ a, slotOff s a + S1x1x1x1024x512.size a ≤ S3x1x1x1024x512.size a := by
  have := s.isLt; intro a; fin_cases a
  · show s.val + 1 ≤ 3; omega
  · show 0 + 1 ≤ 1; omega
  · show 0 + 1 ≤ 1; omega
  · show 0 + 1024 ≤ 1024; omega
  · show 0 + 512 ≤ 512; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Block `(b, q)` of a weight array, as the kernel slices it. -/
def blk (A : Memref sig .tc .hbm S64x2x1024x512 .f32) (q : Fin 2) (b : Fin 64) : Memref sig .tc .hbm S1x1x1024x512 .f32 :=
  A.slice (Rect.unit (s := S64x2x1024x512) (blkOff q b) S1x1x1024x512.size (blkOff_inb q b)) (fun _ => rfl)
/-- Slot `s` of a three-slot buffer, as the kernel slices and squeezes it. -/
def slot (B : Memref sig .tc .vmem S3x1x1x1024x512 .f32) (s : Fin 3) : Memref sig .tc .vmem S1x1x1024x512 .f32 :=
  (B.slice (Rect.unit (s := S3x1x1x1024x512) (slotOff s) S1x1x1x1024x512.size (slotOff_inb s)) (fun _ => rfl)).squeeze
    S1x1x1024x512 squeezes_S1x1x1x1024x512_S1x1x1024x512
/-- Slot `s`'s semaphore. -/
def csm (W : DmaSems sig S3) (s : Fin 3) : DmaSems sig S_ :=
  (W.slice (Rect.unit (s := S3) (semOff s) S1.size (semOff_inb s))).squeeze S_ squeezes_S1_S_

instance (s : Fin 3) : ClosedOff (slotOff s) := ⟨slotOff s, rfl⟩
instance (q : Fin 2) (b : Fin 64) : ClosedOff (blkOff q b) := ⟨blkOff q b, rfl⟩

theorem csm_congr (W : DmaSems sig S3) {off : Fin 1 → Nat} {s : Fin 3} (e : off = semOff s) (hh) :
    (W.slice (Rect.unit (s := S3) off S1.size hh)).squeeze S_ squeezes_S1_S_ = csm W s :=
  congrArg (fun A : DmaSems sig S1 => A.squeeze S_ squeezes_S1_S_) (SemArray.slice_unit_congr _ e _ _)
theorem slot_congr (B : Memref sig .tc .vmem S3x1x1x1024x512 .f32) {off : Fin 5 → Nat} {s : Fin 3} (e : off = slotOff s) (hh hs) :
    (B.slice (Rect.unit (s := S3x1x1x1024x512) off S1x1x1x1024x512.size hh) hs).squeeze S1x1x1024x512 squeezes_S1x1x1x1024x512_S1x1x1024x512
      = slot B s :=
  congrArg (fun M : Memref sig .tc .vmem S1x1x1x1024x512 .f32 => M.squeeze S1x1x1024x512 squeezes_S1x1x1x1024x512_S1x1x1024x512)
    (Memref.slice_unit_congr _ e _ _ _ _)
theorem blk_congr (A : Memref sig .tc .hbm S64x2x1024x512 .f32) {off : Fin 4 → Nat} {q : Fin 2} {b : Fin 64} (e : off = blkOff q b) (hh hs) :
    A.slice (Rect.unit (s := S64x2x1024x512) off S1x1x1024x512.size hh) hs = blk A q b :=
  Memref.slice_unit_congr _ e _ _ _ (fun _ => rfl)

/-! ## The words the loop carries

Before trip `k` each stream has issued `min (k + 2) 64` blocks and waited for `k`, and the expert at hand is `k`. -/

abbrev Trip : Type := Fin k0_t1_loop.trips

/-- How many blocks each stream has issued before trip `k`. -/
def issW (k : ℕ) : BitVec 32 := BitVec.ofNat 32 (min (k + 2) 64)
/-- How many blocks each stream has waited for before trip `k`. -/
def wtW (k : ℕ) : BitVec 32 := BitVec.ofNat 32 k
/-- The expert of trip `k` (back at zero after the last). -/
def expW (k : ℕ) : BitVec 32 := BitVec.ofNat 32 (k % 64)

/-- What the loop carries before trip `k`. -/
def accW (k : ℕ) : BitVec 32 × BitVec 32 × BitVec 32 × BitVec 32 × BitVec 32 × BitVec 32 × BitVec 32 × BitVec 32 × BitVec 32 :=
  (issW k, wtW k, issW k, wtW k, issW k, wtW k, issW k, wtW k, expW k)

theorem trips_eq : k0_t1_loop.trips = 64 := by decide
theorem trip_lt (k : Trip) : k.val < 64 := trips_eq ▸ k.isLt

section Checks

set_option maxRecDepth 100000
/-- The side conditions the kernel assumes of the carried words hold at every trip. -/
theorem chk1_at : ∀ k : Trip, k0_chk1 k (issW k.val) (wtW k.val) (issW k.val) (wtW k.val) (issW k.val) (wtW k.val) (issW k.val) (wtW k.val) (expW k.val) := by
  decide +kernel
theorem chk2_at : ∀ k : Trip, k0_chk2 (wtW k.val) := by decide +kernel
theorem chk3_at (k : Trip) : k0_chk3 (wtW k.val) := chk2_at k
theorem chk4_at (k : Trip) : k0_chk4 (wtW k.val) := chk2_at k
theorem chk5_at (k : Trip) : k0_chk5 (wtW k.val) := chk2_at k

/-- A stream issues a block at trip `k` exactly when block `k + 2` exists. -/
theorem issues : ∀ k : Trip, k.val < 62 → k0_cond5 k (expW k.val) = 1#1 := by decide +kernel
theorem issues_not : ∀ k : Trip, ¬ k.val < 62 → ¬ k0_cond5 k (expW k.val) = 1#1 := by decide +kernel
/-- It waits for block `k` at every trip. -/
theorem waits : ∀ k : Trip, k0_cond9 k (expW k.val) = 1#1 := by decide +kernel

theorem issSem : ∀ k : Trip, k.val < 62 → k0_off15 (issW k.val) = semOff (Ring.sl 3 (k.val + 2)) := by decide +kernel
theorem issSlot : ∀ k : Trip, k.val < 62 → k0_off16 (issW k.val) = slotOff (Ring.sl 3 (k.val + 2)) := by decide +kernel
theorem issBlk0 : ∀ k : Trip, k.val < 62 → k0_off17 (expW k.val) = blkOff 0 (Ring.bk 64 (k.val + 2)) := by decide +kernel
theorem issBlk1 : ∀ k : Trip, k.val < 62 → k0_off20 (expW k.val) = blkOff 1 (Ring.bk 64 (k.val + 2)) := by decide +kernel
theorem wtSem : ∀ k : Trip, k0_off27 (wtW k.val) = semOff (Ring.sl 3 k.val) := by decide +kernel
theorem wtSlot : ∀ k : Trip, k0_off28 (wtW k.val) = slotOff (Ring.sl 3 k.val) := by decide +kernel
theorem wtBlk0 : ∀ k : Trip, k0_off29 (expW k.val) = blkOff 0 (Ring.bk 64 k.val) := by decide +kernel
theorem wtBlk1 : ∀ k : Trip, k0_off32 (expW k.val) = blkOff 1 (Ring.bk 64 k.val) := by decide +kernel
theorem biasOff : ∀ k : Trip, k0_off39 (expW k.val) = ![k.val, 0, 0] := by decide +kernel
theorem biasOff' : ∀ k : Trip, k0_off44 (expW k.val) = ![k.val, 0, 0] := by decide +kernel

end Checks

/-! ## The kernel's spellings, as these names -/

/-- A semaphore array's entry, a buffer's slot, an array's block: as the kernel spells them, at any offsets. -/
abbrev semAt (W : DmaSems sig S3) (off : Fin 1 → Nat) (hh : ∀ a, off a + S1.size a ≤ S3.size a) : DmaSems sig S_ :=
  (W.slice (Rect.unit (s := S3) off S1.size hh)).squeeze S_ squeezes_S1_S_
abbrev slotAt (B : Memref sig .tc .vmem S3x1x1x1024x512 .f32) (off : Fin 5 → Nat)
    (hh : ∀ a, off a + S1x1x1x1024x512.size a ≤ S3x1x1x1024x512.size a) : Memref sig .tc .vmem S1x1x1024x512 .f32 :=
  (B.slice (Rect.unit (s := S3x1x1x1024x512) off S1x1x1x1024x512.size hh) (fun _ => rfl)).squeeze S1x1x1024x512 squeezes_S1x1x1x1024x512_S1x1x1024x512
abbrev blkAt (A : Memref sig .tc .hbm S64x2x1024x512 .f32) (off : Fin 4 → Nat)
    (hh : ∀ a, off a + S1x1x1024x512.size a ≤ S64x2x1024x512.size a) : Memref sig .tc .hbm S1x1x1024x512 .f32 :=
  A.slice (Rect.unit (s := S64x2x1024x512) off S1x1x1024x512.size hh) (fun _ => rfl)

section Canon
variable (W : DmaSems sig S3) (B : Memref sig .tc .vmem S3x1x1x1024x512 .f32) (A : Memref sig .tc .hbm S64x2x1024x512 .f32)

/-! ### A trip issues block `k + 2` … -/

@[sl_canon] theorem sem15 (k : Trip) (hk : k.val < 62) (hh) : semAt W (k0_off15 (issW k.val)) hh = csm W (Ring.sl 3 (k.val + 2)) := csm_congr W (issSem k hk) _
@[sl_canon] theorem sem18 (k : Trip) (hk : k.val < 62) (hh) : semAt W (k0_off18 (issW k.val)) hh = csm W (Ring.sl 3 (k.val + 2)) := csm_congr W (issSem k hk) _
@[sl_canon] theorem sem21 (k : Trip) (hk : k.val < 62) (hh) : semAt W (k0_off21 (issW k.val)) hh = csm W (Ring.sl 3 (k.val + 2)) := csm_congr W (issSem k hk) _
@[sl_canon] theorem sem24 (k : Trip) (hk : k.val < 62) (hh) : semAt W (k0_off24 (issW k.val)) hh = csm W (Ring.sl 3 (k.val + 2)) := csm_congr W (issSem k hk) _
@[sl_canon] theorem slot16 (k : Trip) (hk : k.val < 62) (hh) : slotAt B (k0_off16 (issW k.val)) hh = slot B (Ring.sl 3 (k.val + 2)) := slot_congr B (issSlot k hk) _ _
@[sl_canon] theorem slot19 (k : Trip) (hk : k.val < 62) (hh) : slotAt B (k0_off19 (issW k.val)) hh = slot B (Ring.sl 3 (k.val + 2)) := slot_congr B (issSlot k hk) _ _
@[sl_canon] theorem slot22 (k : Trip) (hk : k.val < 62) (hh) : slotAt B (k0_off22 (issW k.val)) hh = slot B (Ring.sl 3 (k.val + 2)) := slot_congr B (issSlot k hk) _ _
@[sl_canon] theorem slot25 (k : Trip) (hk : k.val < 62) (hh) : slotAt B (k0_off25 (issW k.val)) hh = slot B (Ring.sl 3 (k.val + 2)) := slot_congr B (issSlot k hk) _ _
@[sl_canon] theorem blk17 (k : Trip) (hk : k.val < 62) (hh) : blkAt A (k0_off17 (expW k.val)) hh = blk A 0 (Ring.bk 64 (k.val + 2)) := blk_congr A (issBlk0 k hk) _ _
@[sl_canon] theorem blk20 (k : Trip) (hk : k.val < 62) (hh) : blkAt A (k0_off20 (expW k.val)) hh = blk A 1 (Ring.bk 64 (k.val + 2)) := blk_congr A (issBlk1 k hk) _ _
@[sl_canon] theorem blk23 (k : Trip) (hk : k.val < 62) (hh) : blkAt A (k0_off23 (expW k.val)) hh = blk A 0 (Ring.bk 64 (k.val + 2)) := blk_congr A (issBlk0 k hk) _ _
@[sl_canon] theorem blk26 (k : Trip) (hk : k.val < 62) (hh) : blkAt A (k0_off26 (expW k.val)) hh = blk A 1 (Ring.bk 64 (k.val + 2)) := blk_congr A (issBlk1 k hk) _ _

/-! ### … and waits for block `k`, which it then reads -/

@[sl_canon] theorem sem27 (k : Trip) (hh) : semAt W (k0_off27 (wtW k.val)) hh = csm W (Ring.sl 3 k.val) := csm_congr W (wtSem k) _
@[sl_canon] theorem sem30 (k : Trip) (hh) : semAt W (k0_off30 (wtW k.val)) hh = csm W (Ring.sl 3 k.val) := csm_congr W (wtSem k) _
@[sl_canon] theorem sem33 (k : Trip) (hh) : semAt W (k0_off33 (wtW k.val)) hh = csm W (Ring.sl 3 k.val) := csm_congr W (wtSem k) _
@[sl_canon] theorem sem36 (k : Trip) (hh) : semAt W (k0_off36 (wtW k.val)) hh = csm W (Ring.sl 3 k.val) := csm_congr W (wtSem k) _
@[sl_canon] theorem slot28 (k : Trip) (hh) : slotAt B (k0_off28 (wtW k.val)) hh = slot B (Ring.sl 3 k.val) := slot_congr B (wtSlot k) _ _
@[sl_canon] theorem slot31 (k : Trip) (hh) : slotAt B (k0_off31 (wtW k.val)) hh = slot B (Ring.sl 3 k.val) := slot_congr B (wtSlot k) _ _
@[sl_canon] theorem slot34 (k : Trip) (hh) : slotAt B (k0_off34 (wtW k.val)) hh = slot B (Ring.sl 3 k.val) := slot_congr B (wtSlot k) _ _
@[sl_canon] theorem slot37 (k : Trip) (hh) : slotAt B (k0_off37 (wtW k.val)) hh = slot B (Ring.sl 3 k.val) := slot_congr B (wtSlot k) _ _
@[sl_canon] theorem slot40 (k : Trip) (hh) : slotAt B (k0_off40 (wtW k.val)) hh = slot B (Ring.sl 3 k.val) := slot_congr B (wtSlot k) _ _
@[sl_canon] theorem slot41 (k : Trip) (hh) : slotAt B (k0_off41 (wtW k.val)) hh = slot B (Ring.sl 3 k.val) := slot_congr B (wtSlot k) _ _
@[sl_canon] theorem slot42 (k : Trip) (hh) : slotAt B (k0_off42 (wtW k.val)) hh = slot B (Ring.sl 3 k.val) := slot_congr B (wtSlot k) _ _
@[sl_canon] theorem slot43 (k : Trip) (hh) : slotAt B (k0_off43 (wtW k.val)) hh = slot B (Ring.sl 3 k.val) := slot_congr B (wtSlot k) _ _
@[sl_canon] theorem blk29 (k : Trip) (hh) : blkAt A (k0_off29 (expW k.val)) hh = blk A 0 (Ring.bk 64 k.val) := blk_congr A (wtBlk0 k) _ _
@[sl_canon] theorem blk32 (k : Trip) (hh) : blkAt A (k0_off32 (expW k.val)) hh = blk A 1 (Ring.bk 64 k.val) := blk_congr A (wtBlk1 k) _ _
@[sl_canon] theorem blk35 (k : Trip) (hh) : blkAt A (k0_off35 (expW k.val)) hh = blk A 0 (Ring.bk 64 k.val) := blk_congr A (wtBlk0 k) _ _
@[sl_canon] theorem blk38 (k : Trip) (hh) : blkAt A (k0_off38 (expW k.val)) hh = blk A 1 (Ring.bk 64 k.val) := blk_congr A (wtBlk1 k) _ _

/-! ### Before the loop: blocks 0 and 1 -/

theorem cond1_at : k0_cond1 = 1#1 := by decide +kernel

@[sl_canon] theorem sem1 (hh) : semAt W k0_off1 hh = csm W 0 := csm_congr W (by decide +kernel) _
@[sl_canon] theorem slot2 (hh) : slotAt B k0_off2 hh = slot B 0 := slot_congr B (by decide +kernel) _ _
@[sl_canon] theorem blk_first0 (hh) : blkAt A ![0, 0, 0, 0] hh = blk A 0 0 := blk_congr A (by decide +kernel) _ _
@[sl_canon] theorem blk_first1 (hh) : blkAt A ![0, 1, 0, 0] hh = blk A 1 0 := blk_congr A (by decide +kernel) _ _
@[sl_canon] theorem sem3 (hh) : semAt W k0_off3 hh = csm W 1 := csm_congr W (by decide +kernel) _
@[sl_canon] theorem slot4 (hh) : slotAt B k0_off4 hh = slot B 1 := slot_congr B (by decide +kernel) _ _
@[sl_canon] theorem blk5 (hh) : blkAt A k0_off5 hh = blk A 0 1 := blk_congr A (by decide +kernel) _ _
@[sl_canon] theorem sem6 (hh) : semAt W k0_off6 hh = csm W 1 := csm_congr W (by decide +kernel) _
@[sl_canon] theorem slot7 (hh) : slotAt B k0_off7 hh = slot B 1 := slot_congr B (by decide +kernel) _ _
@[sl_canon] theorem blk8 (hh) : blkAt A k0_off8 hh = blk A 1 1 := blk_congr A (by decide +kernel) _ _
@[sl_canon] theorem sem9 (hh) : semAt W k0_off9 hh = csm W 1 := csm_congr W (by decide +kernel) _
@[sl_canon] theorem slot10 (hh) : slotAt B k0_off10 hh = slot B 1 := slot_congr B (by decide +kernel) _ _
@[sl_canon] theorem blk11 (hh) : blkAt A k0_off11 hh = blk A 0 1 := blk_congr A (by decide +kernel) _ _
@[sl_canon] theorem sem12 (hh) : semAt W k0_off12 hh = csm W 1 := csm_congr W (by decide +kernel) _
@[sl_canon] theorem slot13 (hh) : slotAt B k0_off13 hh = slot B 1 := slot_congr B (by decide +kernel) _ _
@[sl_canon] theorem blk14 (hh) : blkAt A k0_off14 hh = blk A 1 1 := blk_congr A (by decide +kernel) _ _

end Canon

instance (k : Trip) : ClosedOff (k0_off39 (expW k.val)) := ⟨![k.val, 0, 0], biasOff k⟩
instance (k : Trip) : ClosedOff (k0_off44 (expW k.val)) := ⟨![k.val, 0, 0], biasOff' k⟩

end Cert.Moe

end
-- ==== Proof.Ring.lean ====
/-
  One stream of the pipelined part: the 64 blocks of one half of a weight array, carried two blocks ahead through a
  three-slot buffer. Stated once for any buffer, semaphore array and half; the kernel runs four of them side by side.
-/
module

public import proofs.«01_k».proof.Proof.Names

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

/-- The resource algebra: the pipeline's, beside the counters the kernel's own copies ride on. -/
abbrev UU : Type := UR sig nD τ × Counters
local notation "𝕄" => MT nD τ sig Unit (Elt F) ℕ UU ℕ

section Stream
variable (c : Dev nD) (B : Memref sig .tc .vmem S3x1x1x1024x512 .f32) (W : DmaSems sig S3)
  (A : Memref sig .tc .hbm S64x2x1024x512 .f32) (q : Fin 2) (XA : Buf (Elt F) (A.view.loc (c : Thread nD τ)))

/-- Slot `s`'s semaphore at zero. -/
abbrev cellP (s : Fin 3) : sProp 𝕄 := semVal ((c : Thread nD τ), SemLoc.dma (csm W s).sem) 0
/-- Slot `s` held, at contents `f`. -/
abbrev slotP (s : Fin 3) (f : Buf (Elt F) ((slot B s).view.loc (c : Thread nD τ))) : sProp 𝕄 :=
  (slot B s).view.loc (c : Thread nD τ) ↦[(slot B s).view.set]{fullShare} f
/-- Block `b` at home: its elements of the array, at the array's contents. -/
abbrev homeP (b : Fin 64) : sProp 𝕄 := (blk A q b).view.loc (c : Thread nD τ) ↦[(blk A q b).view.set]{fullShare} XA
/-- Block `b`'s numbers, as a copy reads them. -/
abbrev payload (b : Fin 64) : S1x1x1024x512.Idx → Elt F .f32 := ReadAs.same.apply ((blk A q b).view.read (Elt F) XA)
/-- What the copy of block `b` leaves in slot `s`. -/
abbrev landed (s : Fin 3) (b : Fin 64) (f : Buf (Elt F) ((slot B s).view.loc (c : Thread nD τ))) : Buf (Elt F) ((slot B s).view.loc (c : Thread nD τ)) :=
  (slot B s).view.writes (Elt F) f [⟨Rect.whole S1x1x1024x512, payload c A q XA b⟩]
/-- Block `b` on its way into slot `s`. -/
abbrev flightP (s : Fin 3) (b : Fin 64) (f : Buf (Elt F) ((slot B s).view.loc (c : Thread nD τ))) : sProp 𝕄 :=
  Transfers.Flight countersEmb (c : Thread nD τ) (SemLoc.dma (csm W s).sem) () 65536 iprop(slotP c B s (landed c B A q XA s b f) ∗ homeP c A q XA b)

/-- Slot `s` with nothing on its way. -/
abbrev freeP (s : Fin 3) : sProp 𝕄 := iprop(cellP c W s ∗ ∃ f, slotP c B s f)
/-- Block `b` on its way into slot `s`, whatever the slot held. -/
abbrev inflP (s : Fin 3) (b : Fin 64) : sProp 𝕄 := iprop(∃ f, flightP c B W A q XA s b f)
/-- The slot of block `p` before trip `p`: the block on its way, or nothing past the last block. -/
def roleP (p : ℕ) : sProp 𝕄 := Ring.roleAt (freeP c B W (Ring.sl 3 p)) (inflP c B W A q XA (Ring.sl 3 p)) p

/-- The stream before trip `k`: blocks `k` and `k + 1` on their way, every other block at home, slot `k + 2` free. -/
def ringAt (k : ℕ) : sProp 𝕄 :=
  iprop(bigSep (Ring.homeSet 2 k) (homeP c A q XA) ∗ roleP c B W A q XA k ∗ roleP c B W A q XA (k + 1) ∗ freeP c B W (Ring.sl 3 (k + 2)))

/-- The blocks that stay at home through trip `k`. -/
abbrev stay (k : ℕ) : sProp 𝕄 := bigSep ((Ring.homeSet 2 k).erase (Ring.bk 64 (k + 2))) (homeP c A q XA)

/-- A trip with a block left to issue: block `k` to wait for, block `k + 2` to send. -/
theorem ringAt_here (k : ℕ) (hk : k < 62) :
    ringAt c B W A q XA k
      = iprop((homeP c A q XA (Ring.bk 64 (k + 2)) ∗ stay c A q XA k) ∗ inflP c B W A q XA (Ring.sl 3 k) (Ring.bk 64 k)
          ∗ roleP c B W A q XA (k + 1) ∗ freeP c B W (Ring.sl 3 (k + 2))) := by
  unfold ringAt
  rw [show roleP c B W A q XA k = _ from Ring.roleAt_of_lt _ _ k (by omega)]
  conv_lhs => rw [Ring.homeSet_out 2 k (by omega), bigSep_insert (Ring.bkL_not_mem_erase 2 k)]
  rfl
/-- … and what it leaves. -/
theorem ringAt_next (k : ℕ) (hk : k < 62) :
    ringAt c B W A q XA (k + 1)
      = iprop((homeP c A q XA (Ring.bk 64 k) ∗ stay c A q XA k) ∗ roleP c B W A q XA (k + 1)
          ∗ inflP c B W A q XA (Ring.sl 3 (k + 2)) (Ring.bk 64 (k + 2)) ∗ freeP c B W (Ring.sl 3 k)) := by
  unfold ringAt
  rw [show roleP c B W A q XA (k + 1 + 1) = _ from Ring.roleAt_of_lt _ _ (k + 2) (by omega), Ring.sl_succ_add 3 k 2 rfl]
  conv_lhs => rw [Ring.homeSet_succ 2 k (by omega), bigSep_insert (Ring.bk_not_mem_erase 2 k (by omega) (by decide))]
  rfl
/-- A trip with none left to issue: block `k` to wait for; -/
theorem ringAt_here_tail (k : ℕ) (hk : k < 64) :
    ringAt c B W A q XA k
      = iprop(bigSep (Ring.homeSet 2 k) (homeP c A q XA) ∗ inflP c B W A q XA (Ring.sl 3 k) (Ring.bk 64 k)
          ∗ roleP c B W A q XA (k + 1) ∗ freeP c B W (Ring.sl 3 (k + 2))) := by
  unfold ringAt
  rw [show roleP c B W A q XA k = _ from Ring.roleAt_of_lt _ _ k (by omega)]
/-- … and what it leaves. -/
theorem ringAt_next_tail (k : ℕ) (hk : ¬ k < 62) (hk' : k < 64) :
    ringAt c B W A q XA (k + 1)
      = iprop((homeP c A q XA (Ring.bk 64 k) ∗ bigSep (Ring.homeSet 2 k) (homeP c A q XA)) ∗ roleP c B W A q XA (k + 1)
          ∗ freeP c B W (Ring.sl 3 (k + 2)) ∗ freeP c B W (Ring.sl 3 k)) := by
  unfold ringAt
  rw [show roleP c B W A q XA (k + 1 + 1) = _ from Ring.roleAt_of_le _ _ (k + 2) (by omega), Ring.sl_succ_add 3 k 2 rfl]
  conv_lhs => rw [Ring.homeSet_succ_tail 2 k (by omega) hk', bigSep_insert (Ring.bk_not_mem_homeSet 2 k hk' (by decide))]
  rfl

/-- Before the first trip; -/
theorem ringAt_zero :
    ringAt c B W A q XA 0
      = iprop(bigSep (Ring.homeSet 2 0) (homeP c A q XA) ∗ inflP c B W A q XA 0 0 ∗ inflP c B W A q XA 1 1 ∗ freeP c B W 2) := by
  unfold ringAt
  rw [show roleP c B W A q XA 0 = _ from Ring.roleAt_of_lt _ _ 0 (by omega), show roleP c B W A q XA (0 + 1) = _ from Ring.roleAt_of_lt _ _ 1 (by omega)]
  rfl
/-- and after the last: every block at home, every slot free. -/
theorem ringAt_last :
    ringAt c B W A q XA 64
      = iprop(bigSep Finset.univ (homeP c A q XA) ∗ freeP c B W 1 ∗ freeP c B W 2 ∗ freeP c B W 0) := by
  unfold ringAt
  rw [show roleP c B W A q XA 64 = _ from Ring.roleAt_of_le _ _ 64 (by omega), show roleP c B W A q XA (64 + 1) = _ from Ring.roleAt_of_le _ _ 65 (by omega),
    Ring.homeSet_last 2 64 le_rfl]
  rfl

end Stream

end Cert.Moe

end
-- ==== Proof.Trip.lean ====
/-
  One trip of the pipelined loop: it waits for the four quarters of expert `k`'s weights, sends for those of expert
  `k + 2` if there is one, and adds the expert's contribution to the output.
-/
module

public import proofs.«01_k».proof.Proof.Ring
public import Idealize.ShloMosaic.Lib.VecWindow

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ
abbrev 𝒱₀ : Variants := Variants.none

/-- The two weight arrays, and the four streams' buffers. -/
abbrev aU : Memref sig .tc .hbm S64x2x1024x512 .f32 := Memref.whole main_v3
abbrev aD : Memref sig .tc .hbm S64x2x1024x512 .f32 := Memref.whole main_v4
abbrev b0 : Memref sig .tc .vmem S3x1x1x1024x512 .f32 := Memref.whole cc0_scoped0
abbrev b1 : Memref sig .tc .vmem S3x1x1x1024x512 .f32 := Memref.whole cc0_scoped2
abbrev b2 : Memref sig .tc .vmem S3x1x1x1024x512 .f32 := Memref.whole cc0_scoped4
abbrev b3 : Memref sig .tc .vmem S3x1x1x1024x512 .f32 := Memref.whole cc0_scoped6

section Trip
variable (c : Dev nD) (XU : Buf (Elt F) (aU.view.loc (c : Thread nD τ))) (XD : Buf (Elt F) (aD.view.loc (c : Thread nD τ)))

/-- The four streams before trip `k`. -/
def ringsAt (k : ℕ) : sProp 𝕄 :=
  iprop(ringAt c b0 cc0_scoped1 aU 0 XU k ∗ ringAt c b1 cc0_scoped3 aU 1 XU k
    ∗ ringAt c b2 cc0_scoped5 aD 0 XD k ∗ ringAt c b3 cc0_scoped7 aD 1 XD k)

variable
  (arg0 : Memref sig .tc .vmem S64x512 .f32) (harg0 : arg0.IsWhole) (arg1 : Memref sig .tc .vmem S512x2048 .f32) (harg1 : arg1.IsWhole)
  (arg2 : Memref sig .tc .vmem S1x2048 .f32) (harg2 : arg2.IsWhole) (arg3 : Memref sig .tc .vmem S2048x2048 .f32) (harg3 : arg3.IsWhole)
  (arg4 : Memref sig .tc .vmem S1x2048 .f32) (harg4 : arg4.IsWhole) (arg5 : Memref sig .tc .vmem S2048x64 .f32) (harg5 : arg5.IsWhole)
  (arg6 : Memref sig .tc .vmem S1x64 .f32) (harg6 : arg6.IsWhole) (arg7 : Memref sig .tc .vmem S64x1x2048 .f32) (harg7 : arg7.IsWhole)
  (arg8 : Memref sig .tc .vmem S64x1x512 .f32) (harg8 : arg8.IsWhole) (arg11 : Memref sig .tc .vmem S64x512 .f32) (harg11 : arg11.IsWhole)
  (X7 : Buf (Elt F) (arg7.view.loc (c : Thread nD τ))) (X8 : Buf (Elt F) (arg8.view.loc (c : Thread nD τ)))
  (v1 : FVec F S64x512 .f32) (v48 v60 : IVec S64x1 32) (v62 v63 : FVec F S64x1 .f32)
  (v77 v101 v108 v115 v122 : BitVec 32) (v124 : BitVec 1) (v126 : BitVec 32)

/-- What a trip holds beside the streams: the biases, the output at `fo`, the core's dues. -/
def restAt (fo : Buf (Elt F) (arg11.view.loc (c : Thread nD τ))) : sProp 𝕄 :=
  iprop((arg7.view.loc (c : Thread nD τ) ↦[arg7.view.set]{fullShare} X7) ∗ (arg8.view.loc (c : Thread nD τ) ↦[arg8.view.set]{fullShare} X8)
    ∗ (arg11.view.loc (c : Thread nD τ) ↦[arg11.view.set]{fullShare} fo) ∗ (∃ W, owes (c : Thread nD τ) 0 W))

abbrev tripG (k : Trip) : Prog (TpuEff nD τ sig (Elt F) Λ₀ .tc) (BitVec 32 × BitVec 32 × BitVec 32 × BitVec 32 × BitVec 32 × BitVec 32 × BitVec 32 × BitVec 32 × BitVec 32) :=
  k0_t1_body (F := F) arg0 harg0 arg1 harg1 arg2 harg2 arg3 harg3 arg4 harg4 arg5 harg5 arg6 harg6 arg7 harg7 arg8 harg8
    aU (Memref.isWhole_whole _) aD (Memref.isWhole_whole _) arg11 harg11
    b0 (Memref.isWhole_whole _) cc0_scoped1 b1 (Memref.isWhole_whole _) cc0_scoped3
    b2 (Memref.isWhole_whole _) cc0_scoped5 b3 (Memref.isWhole_whole _) cc0_scoped7
    v1 v48 v60 v62 v63 v77 v101 v108 v115 v122 v124 v126 k (accW k.val)

abbrev R00 : Rect S64x512 := Rect.unit (s := S64x512) ![0, 0] S64x512.size inb_S64x512_S64x512_0_0

/-- Expert `k`'s biases, as the trip reads them. -/
abbrev bias7 (k : Trip) : Vec F S1x1x2048 .f32 :=
  View.readAt (Elt F) arg7.view (Rect.unit (s := S64x1x2048) (k0_off39 (expW k.val)) S1x1x2048.size (k0_off39_inb k _ _ _ _ _ _ _ _ _ (chk1_at k))).toLoadRect X7
abbrev bias8 (k : Trip) : Vec F S1x1x512 .f32 :=
  View.readAt (Elt F) arg8.view (Rect.unit (s := S64x1x512) (k0_off44 (expW k.val)) S1x1x512.size (k0_off44_inb k _ _ _ _ _ _ _ _ _ (chk1_at k))).toLoadRect X8
/-- A slot that holds the numbers `P`, as the trip reads it. -/
abbrev slotRead (B : Memref sig .tc .vmem S3x1x1x1024x512 .f32) (s : Fin 3) (P : S1x1x1024x512.Idx → Elt F .f32) : Vec F S1x1x1024x512 .f32 :=
  (slot B s).view.readCov [⟨Rect.whole S1x1x1024x512, P⟩]
    (Rect.unit (s := S1x1x1024x512) ![0, 0, 0, 0] S1x1x1024x512.size inb_S1x1x1024x512_S1x1x1024x512_0_0_0_0).toLoadRect

/-- What trip `k` stores over an output that reads `r`. -/
def tripVal (k : Trip) (r : FVec F S64x512 .f32) : FVec F S64x512 .f32 :=
  k0_pay4 v48 v60 v62 v63 (Scalar.addi (expW k.val) 0#32)
    (k0_pay2 v1 (k0_pay1 (bias7 c arg7 X7 k)) (slotRead b1 (Ring.sl 3 k.val) (payload c aU 1 XU (Ring.bk 64 k.val))))
    (k0_pay3 v1 (k0_pay1 (bias7 c arg7 X7 k)) (slotRead b0 (Ring.sl 3 k.val) (payload c aU 0 XU (Ring.bk 64 k.val)))
      (slotRead b2 (Ring.sl 3 k.val) (payload c aD 0 XD (Ring.bk 64 k.val))))
    (slotRead b3 (Ring.sl 3 k.val) (payload c aD 1 XD (Ring.bk 64 k.val)))
    (bias8 c arg8 X8 k)
    r

/-- The output after trip `k`. -/
abbrev tripOut (k : Trip) (fo : Buf (Elt F) (arg11.view.loc (c : Thread nD τ))) : Buf (Elt F) (arg11.view.loc (c : Thread nD τ)) :=
  arg11.view.writes (Elt F) fo [⟨R00, tripVal c XU XD arg7 arg8 X7 X8 v1 v48 v60 v62 v63 k (View.readAt (Elt F) arg11.view (R00).toLoadRect fo)⟩]

set_option backward.proofsInPublic true in
/-- A trip with experts left to send for. -/
theorem trip_main (k : Trip) (hk : k.val < 62) (fo : Buf (Elt F) (arg11.view.loc (c : Thread nD τ))) :
    iprop(restAt c arg7 arg8 arg11 X7 X8 fo ∗ ringsAt c XU XD k.val)
      ⊢ wp frame (wpE (defs₀ (F := F)) 𝒱₀ (c : Thread nD τ) none) Set.univ
        (tripG arg0 harg0 arg1 harg1 arg2 harg2 arg3 harg3 arg4 harg4 arg5 harg5 arg6 harg6 arg7 harg7 arg8 harg8 arg11 harg11 v1 v48 v60 v62 v63 v77 v101 v108 v115 v122 v124 v126 k)
        (fun acc => iprop(⌜acc = accW (k.val + 1)⌝ ∗ restAt c arg7 arg8 arg11 X7 X8 (tripOut c XU XD arg7 arg8 arg11 X7 X8 v1 v48 v60 v62 v63 k fo) ∗ ringsAt c XU XD (k.val + 1))) := by
  have d1 := chk1_at k
  have d2 := chk2_at k
  have d3 := chk3_at k
  have d4 := chk4_at k
  have d5 := chk5_at k
  have c5 : k0_cond5 k (expW k.val) = 1#1 := issues k hk
  have c6 : k0_cond6 k (expW k.val) = 1#1 := issues k hk
  have c7 : k0_cond7 k (expW k.val) = 1#1 := issues k hk
  have c8 : k0_cond8 k (expW k.val) = 1#1 := issues k hk
  have c9 : k0_cond9 k (expW k.val) = 1#1 := waits k
  have c10 : k0_cond10 k (expW k.val) = 1#1 := waits k
  have c11 : k0_cond11 k (expW k.val) = 1#1 := waits k
  have c12 : k0_cond12 k (expW k.val) = 1#1 := waits k
  have hl := trip_lt k
  unfold ringsAt restAt
  rw [ringAt_here c b0 cc0_scoped1 aU 0 XU k.val hk, ringAt_here c b1 cc0_scoped3 aU 1 XU k.val hk, ringAt_here c b2 cc0_scoped5 aD 0 XD k.val hk, ringAt_here c b3 cc0_scoped7 aD 1 XD k.val hk,
    ringAt_next c b0 cc0_scoped1 aU 0 XU k.val hk, ringAt_next c b1 cc0_scoped3 aU 1 XU k.val hk, ringAt_next c b2 cc0_scoped5 aD 0 XD k.val hk, ringAt_next c b3 cc0_scoped7 aD 1 XD k.val hk]
  iintro ⟨⟨H7, H8, HO, ⟨%W, HW⟩⟩, ⟨⟨A0, S0⟩, ⟨%f0, F0⟩, R0, C0, ⟨%g0, B0⟩⟩, ⟨⟨A1, S1⟩, ⟨%f1, F1⟩, R1, C1, ⟨%g1, B1⟩⟩, ⟨⟨A2, S2⟩, ⟨%f2, F2⟩, R2, C2, ⟨%g2, B2⟩⟩, ⟨⟨A3, S3⟩, ⟨%f3, F3⟩, R3, C3, ⟨%g3, B3⟩⟩⟩
  dsimp only [tripG, accW]
  sl_unfold [k0_t1_body]
  simp -proj only [k0_part5_eq_skeleton, k0_part5_skel, k0_part6_eq_skeleton, k0_part6_skel, ite_self, pure_bind]
  sl_exec
  sl_step
  isplitr
  · ipureintro
    clear * -; simp only [Prod.mk.injEq]; repeat' apply And.intro
    all_goals decide +kernel +revert
  isplitl [H7 H8 HO HW]
  · isplitl [H7]; · iexact H7
    isplitl [H8]; · iexact H8
    isplitl [HO]; · iexact HO
    iexists _; iexact HW
  isplitl [F0_src S0 R0 C0 F0 F0_dst]
  · isplitl [F0_src S0]
    · isplitl [F0_src]; · iexact F0_src
      iexact S0
    isplitl [R0]; · iexact R0
    isplitl [C0]; · iexists g0; iexact C0
    isplitl [F0]; · iexact F0
    iexists _; iexact F0_dst
  isplitl [F1_src S1 R1 C1 F1 F1_dst]
  · isplitl [F1_src S1]
    · isplitl [F1_src]; · iexact F1_src
      iexact S1
    isplitl [R1]; · iexact R1
    isplitl [C1]; · iexists g1; iexact C1
    isplitl [F1]; · iexact F1
    iexists _; iexact F1_dst
  isplitl [F2_src S2 R2 C2 F2 F2_dst]
  · isplitl [F2_src S2]
    · isplitl [F2_src]; · iexact F2_src
      iexact S2
    isplitl [R2]; · iexact R2
    isplitl [C2]; · iexists g2; iexact C2
    isplitl [F2]; · iexact F2
    iexists _; iexact F2_dst
  · isplitl [F3_src S3]
    · isplitl [F3_src]; · iexact F3_src
      iexact S3
    isplitl [R3]; · iexact R3
    isplitl [C3]; · iexists g3; iexact C3
    isplitl [F3]; · iexact F3
    iexists _; iexact F3_dst

set_option backward.proofsInPublic true in
/-- A trip with none left. -/
theorem trip_tail (k : Trip) (hk : ¬ k.val < 62) (fo : Buf (Elt F) (arg11.view.loc (c : Thread nD τ))) :
    iprop(restAt c arg7 arg8 arg11 X7 X8 fo ∗ ringsAt c XU XD k.val)
      ⊢ wp frame (wpE (defs₀ (F := F)) 𝒱₀ (c : Thread nD τ) none) Set.univ
        (tripG arg0 harg0 arg1 harg1 arg2 harg2 arg3 harg3 arg4 harg4 arg5 harg5 arg6 harg6 arg7 harg7 arg8 harg8 arg11 harg11 v1 v48 v60 v62 v63 v77 v101 v108 v115 v122 v124 v126 k)
        (fun acc => iprop(⌜acc = accW (k.val + 1)⌝ ∗ restAt c arg7 arg8 arg11 X7 X8 (tripOut c XU XD arg7 arg8 arg11 X7 X8 v1 v48 v60 v62 v63 k fo) ∗ ringsAt c XU XD (k.val + 1))) := by
  have d1 := chk1_at k
  have d2 := chk2_at k
  have d3 := chk3_at k
  have d4 := chk4_at k
  have d5 := chk5_at k
  have c5 : ¬ k0_cond5 k (expW k.val) = 1#1 := issues_not k hk
  have c6 : ¬ k0_cond6 k (expW k.val) = 1#1 := issues_not k hk
  have c7 : ¬ k0_cond7 k (expW k.val) = 1#1 := issues_not k hk
  have c8 : ¬ k0_cond8 k (expW k.val) = 1#1 := issues_not k hk
  have c9 : k0_cond9 k (expW k.val) = 1#1 := waits k
  have c10 : k0_cond10 k (expW k.val) = 1#1 := waits k
  have c11 : k0_cond11 k (expW k.val) = 1#1 := waits k
  have c12 : k0_cond12 k (expW k.val) = 1#1 := waits k
  have hl := trip_lt k
  unfold ringsAt restAt
  rw [ringAt_here_tail c b0 cc0_scoped1 aU 0 XU k.val hl, ringAt_here_tail c b1 cc0_scoped3 aU 1 XU k.val hl, ringAt_here_tail c b2 cc0_scoped5 aD 0 XD k.val hl, ringAt_here_tail c b3 cc0_scoped7 aD 1 XD k.val hl,
    ringAt_next_tail c b0 cc0_scoped1 aU 0 XU k.val hk hl, ringAt_next_tail c b1 cc0_scoped3 aU 1 XU k.val hk hl, ringAt_next_tail c b2 cc0_scoped5 aD 0 XD k.val hk hl, ringAt_next_tail c b3 cc0_scoped7 aD 1 XD k.val hk hl]
  iintro ⟨⟨H7, H8, HO, ⟨%W, HW⟩⟩, ⟨S0, ⟨%f0, F0⟩, R0, C0⟩, ⟨S1, ⟨%f1, F1⟩, R1, C1⟩, ⟨S2, ⟨%f2, F2⟩, R2, C2⟩, ⟨S3, ⟨%f3, F3⟩, R3, C3⟩⟩
  dsimp only [tripG, accW]
  sl_unfold [k0_t1_body]
  simp -proj only [k0_part5_eq_skeleton, k0_part5_skel, k0_part6_eq_skeleton, k0_part6_skel, ite_self, pure_bind]
  sl_exec
  sl_step
  isplitr
  · ipureintro
    clear * -; simp only [Prod.mk.injEq]; repeat' apply And.intro
    all_goals decide +kernel +revert
  isplitl [H7 H8 HO HW]
  · isplitl [H7]; · iexact H7
    isplitl [H8]; · iexact H8
    isplitl [HO]; · iexact HO
    iexists _; iexact HW
  isplitl [F0_src S0 R0 C0 F0 F0_dst]
  · isplitl [F0_src S0]
    · isplitl [F0_src]; · iexact F0_src
      iexact S0
    isplitl [R0]; · iexact R0
    isplitl [C0]; · iexact C0
    isplitl [F0]; · iexact F0
    iexists _; iexact F0_dst
  isplitl [F1_src S1 R1 C1 F1 F1_dst]
  · isplitl [F1_src S1]
    · isplitl [F1_src]; · iexact F1_src
      iexact S1
    isplitl [R1]; · iexact R1
    isplitl [C1]; · iexact C1
    isplitl [F1]; · iexact F1
    iexists _; iexact F1_dst
  isplitl [F2_src S2 R2 C2 F2 F2_dst]
  · isplitl [F2_src S2]
    · isplitl [F2_src]; · iexact F2_src
      iexact S2
    isplitl [R2]; · iexact R2
    isplitl [C2]; · iexact C2
    isplitl [F2]; · iexact F2
    iexists _; iexact F2_dst
  · isplitl [F3_src S3]
    · isplitl [F3_src]; · iexact F3_src
      iexact S3
    isplitl [R3]; · iexact R3
    isplitl [C3]; · iexact C3
    isplitl [F3]; · iexact F3
    iexists _; iexact F3_dst

/-! ## The loop -/

/-- What the output reads before trip `k`, from `r0` at the loop's entry. -/
def outVal (r0 : FVec F S64x512 .f32) : ℕ → FVec F S64x512 .f32
  | 0 => r0
  | k + 1 => if h : k < k0_t1_loop.trips then tripVal c XU XD arg7 arg8 X7 X8 v1 v48 v60 v62 v63 ⟨k, h⟩ (outVal r0 k) else outVal r0 k

/-- The invariant before trip `k`. -/
def loopInv (r0 : FVec F S64x512 .f32) (k : ℕ) (acc : BitVec 32 × BitVec 32 × BitVec 32 × BitVec 32 × BitVec 32 × BitVec 32 × BitVec 32 × BitVec 32 × BitVec 32) : sProp 𝕄 :=
  iprop(⌜acc = accW k⌝ ∗ (∃ fo, ⌜View.readAt (Elt F) arg11.view (R00).toLoadRect fo = outVal c XU XD arg7 arg8 X7 X8 v1 v48 v60 v62 v63 r0 k⌝
    ∗ restAt c arg7 arg8 arg11 X7 X8 fo) ∗ ringsAt c XU XD k)

/-- Every trip keeps it. -/
theorem loop_step (r0 : FVec F S64x512 .f32) (k : Trip) (acc) :
    loopInv c XU XD arg7 arg8 arg11 X7 X8 v1 v48 v60 v62 v63 r0 k.val acc
      ⊢ wp frame (wpE (defs₀ (F := F)) 𝒱₀ (c : Thread nD τ) none) Set.univ
        (k0_t1_body (F := F) arg0 harg0 arg1 harg1 arg2 harg2 arg3 harg3 arg4 harg4 arg5 harg5 arg6 harg6 arg7 harg7 arg8 harg8
          aU (Memref.isWhole_whole _) aD (Memref.isWhole_whole _) arg11 harg11
          b0 (Memref.isWhole_whole _) cc0_scoped1 b1 (Memref.isWhole_whole _) cc0_scoped3
          b2 (Memref.isWhole_whole _) cc0_scoped5 b3 (Memref.isWhole_whole _) cc0_scoped7
          v1 v48 v60 v62 v63 v77 v101 v108 v115 v122 v124 v126 k acc)
        (loopInv c XU XD arg7 arg8 arg11 X7 X8 v1 v48 v60 v62 v63 r0 (k.val + 1)) := by
  unfold loopInv
  iintro ⟨%e, ⟨%fo, %hfo, HR⟩, HS⟩
  subst e
  iapply (wp_wand_r Idealize.ShloMosaic.frame (wpE (defs₀ (F := F)) 𝒱₀ (c : Thread nD τ) none) Set.univ)
  isplitl [HR HS]
  · by_cases hk : k.val < 62
    · iapply (trip_main c XU XD arg0 harg0 arg1 harg1 arg2 harg2 arg3 harg3 arg4 harg4 arg5 harg5 arg6 harg6 arg7 harg7 arg8 harg8 arg11 harg11 X7 X8 v1 v48 v60 v62 v63 v77 v101 v108 v115 v122 v124 v126 k hk fo)
      isplitl [HR]; · iexact HR
      iexact HS
    · iapply (trip_tail c XU XD arg0 harg0 arg1 harg1 arg2 harg2 arg3 harg3 arg4 harg4 arg5 harg5 arg6 harg6 arg7 harg7 arg8 harg8 arg11 harg11 X7 X8 v1 v48 v60 v62 v63 v77 v101 v108 v115 v122 v124 v126 k hk fo)
      isplitl [HR]; · iexact HR
      iexact HS
  · iintro %acc' ⟨%e', HR, HS⟩
    isplitr; · ipureintro; exact e'
    isplitl [HR]
    · iexists _
      isplitr
      · ipureintro
        rw [outVal, dif_pos k.isLt, ← hfo]
        exact View.readAt_writes_full arg11.view fo inb_S64x512_S64x512_0_0 inb_S64x512_S64x512_0_0 _ []
      iexact HR
    iexact HS

end Trip

end Cert.Moe

end
-- ==== Proof.Body.lean ====
/-
  The kernel's body: the gating, the output zeroed, the first two experts sent for, the loop over the experts.
-/
module

public import proofs.«01_k».proof.Proof.Trip

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

section Stream
variable (c : Dev nD) (B : Memref sig .tc .vmem S3x1x1x1024x512 .f32) (W : DmaSems sig S3)
  (A : Memref sig .tc .hbm S64x2x1024x512 .f32) (q : Fin 2) (XA : Buf (Elt F) (A.view.loc (c : Thread nD τ)))

/-- A stream before the body: every block at home (0 and 1 apart: they are sent for first), every slot free; -/
abbrev streamPre : sProp 𝕄 :=
  iprop(homeP c A q XA 0 ∗ homeP c A q XA 1 ∗ bigSep (Ring.homeSet 2 0) (homeP c A q XA) ∗ freeP c B W 0 ∗ freeP c B W 1 ∗ freeP c B W 2)
/-- and after it. -/
abbrev streamPost : sProp 𝕄 :=
  iprop(bigSep Finset.univ (homeP c A q XA) ∗ freeP c B W 1 ∗ freeP c B W 2 ∗ freeP c B W 0)
end Stream

section Body
variable (c : Dev nD) (XU : Buf (Elt F) (aU.view.loc (c : Thread nD τ))) (XD : Buf (Elt F) (aD.view.loc (c : Thread nD τ)))
  (arg0 : Memref sig .tc .vmem S64x512 .f32) (harg0 : arg0.IsWhole)
  (arg1 : Memref sig .tc .vmem S512x2048 .f32) (harg1 : arg1.IsWhole)
  (arg2 : Memref sig .tc .vmem S1x2048 .f32) (harg2 : arg2.IsWhole)
  (arg3 : Memref sig .tc .vmem S2048x2048 .f32) (harg3 : arg3.IsWhole)
  (arg4 : Memref sig .tc .vmem S1x2048 .f32) (harg4 : arg4.IsWhole)
  (arg5 : Memref sig .tc .vmem S2048x64 .f32) (harg5 : arg5.IsWhole)
  (arg6 : Memref sig .tc .vmem S1x64 .f32) (harg6 : arg6.IsWhole)
  (arg7 : Memref sig .tc .vmem S64x1x2048 .f32) (harg7 : arg7.IsWhole)
  (arg8 : Memref sig .tc .vmem S64x1x512 .f32) (harg8 : arg8.IsWhole)
  (arg11 : Memref sig .tc .vmem S64x512 .f32) (harg11 : arg11.IsWhole)
  (X0 : Buf (Elt F) (arg0.view.loc (c : Thread nD τ)))
  (X1 : Buf (Elt F) (arg1.view.loc (c : Thread nD τ)))
  (X2 : Buf (Elt F) (arg2.view.loc (c : Thread nD τ)))
  (X3 : Buf (Elt F) (arg3.view.loc (c : Thread nD τ)))
  (X4 : Buf (Elt F) (arg4.view.loc (c : Thread nD τ)))
  (X5 : Buf (Elt F) (arg5.view.loc (c : Thread nD τ)))
  (X6 : Buf (Elt F) (arg6.view.loc (c : Thread nD τ)))
  (X7 : Buf (Elt F) (arg7.view.loc (c : Thread nD τ)))
  (X8 : Buf (Elt F) (arg8.view.loc (c : Thread nD τ)))

/-- The gating's logits before their bias, from the arrays as the body reads them. -/
def v33Of : FVec F S64x64 .f32 := k0_pay6
  (View.readAt (Elt F) arg0.view (Rect.unit (s := S64x512) ![0, 0] S64x512.size inb_S64x512_S64x512_0_0).toLoadRect X0)
  (View.readAt (Elt F) arg1.view (Rect.unit (s := S512x2048) ![0, 0] S512x2048.size inb_S512x2048_S512x2048_0_0).toLoadRect X1)
  (View.readAt (Elt F) arg2.view (Rect.unit (s := S1x2048) ![0, 0] S1x2048.size inb_S1x2048_S1x2048_0_0).toLoadRect X2)
  (View.readAt (Elt F) arg3.view (Rect.unit (s := S2048x2048) ![0, 0] S2048x2048.size inb_S2048x2048_S2048x2048_0_0).toLoadRect X3)
  (View.readAt (Elt F) arg4.view (Rect.unit (s := S1x2048) ![0, 0] S1x2048.size inb_S1x2048_S1x2048_0_0).toLoadRect X4)
  (View.readAt (Elt F) arg5.view (Rect.unit (s := S2048x64) ![0, 0] S2048x64.size inb_S2048x64_S2048x64_0_0).toLoadRect X5)
def v36Of : FVec F S1x64 .f32 := k0_pay7
  (View.readAt (Elt F) arg6.view (Rect.unit (s := S1x64) ![0, 0] S1x64.size inb_S1x64_S1x64_0_0).toLoadRect X6)
/-- What the body leaves in the output. -/
def outOf : FVec F S64x512 .f32 :=
  outVal c XU XD arg7 arg8 X7 X8 (k0_pay5 (View.readAt (Elt F) arg0.view (Rect.unit (s := S64x512) ![0, 0] S64x512.size inb_S64x512_S64x512_0_0).toLoadRect X0))
    (k0_pay10 (v33Of c arg0 arg1 arg2 arg3 arg4 arg5 X0 X1 X2 X3 X4 X5) (v36Of c arg6 X6)) (k0_pay13 (v33Of c arg0 arg1 arg2 arg3 arg4 arg5 X0 X1 X2 X3 X4 X5) (v36Of c arg6 X6))
    (k0_pay15 (v33Of c arg0 arg1 arg2 arg3 arg4 arg5 X0 X1 X2 X3 X4 X5) (v36Of c arg6 X6)) (k0_pay16 (v33Of c arg0 arg1 arg2 arg3 arg4 arg5 X0 X1 X2 X3 X4 X5) (v36Of c arg6 X6)) k0_pay17 64

/-- The body on the given staging buffers. -/
abbrev bodyG : Prog (TpuEff nD τ sig (Elt F) Λ₀ .tc) PUnit :=
  cc0__moe_kernel arg0 harg0 arg1 harg1 arg2 harg2 arg3 harg3 arg4 harg4 arg5 harg5 arg6 harg6 arg7 harg7 arg8 harg8 aU (Memref.isWhole_whole _) aD (Memref.isWhole_whole _) arg11 harg11
    b0 (Memref.isWhole_whole _) cc0_scoped1 b1 (Memref.isWhole_whole _) cc0_scoped3
    b2 (Memref.isWhole_whole _) cc0_scoped5 b3 (Memref.isWhole_whole _) cc0_scoped7

/-- What the body reads. -/
abbrev inputs : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8))

abbrev PRE (gO : Buf (Elt F) (arg11.view.loc (c : Thread nD τ))) (W : Waits sig Unit) : sProp 𝕄 :=
  iprop(inputs c arg0 arg1 arg2 arg3 arg4 arg5 arg6 arg7 arg8 X0 X1 X2 X3 X4 X5 X6 X7 X8
    ∗ (arg11.view.loc (c : Thread nD τ) ↦[arg11.view.set]{fullShare} gO) ∗ owes (c : Thread nD τ) 0 W
    ∗ streamPre c b0 cc0_scoped1 aU 0 XU ∗ streamPre c b1 cc0_scoped3 aU 1 XU ∗ streamPre c b2 cc0_scoped5 aD 0 XD ∗ streamPre c b3 cc0_scoped7 aD 1 XD)
abbrev POST (r : FVec F S64x512 .f32) : sProp 𝕄 :=
  iprop(inputs c arg0 arg1 arg2 arg3 arg4 arg5 arg6 arg7 arg8 X0 X1 X2 X3 X4 X5 X6 X7 X8
    ∗ (∃ fo, ⌜arg11.view.read (Elt F) fo = r⌝ ∗ arg11.view.loc (c : Thread nD τ) ↦[arg11.view.set]{fullShare} fo) ∗ (∃ W, owes (c : Thread nD τ) 0 W)
    ∗ streamPost c b0 cc0_scoped1 aU 0 XU ∗ streamPost c b1 cc0_scoped3 aU 1 XU ∗ streamPost c b2 cc0_scoped5 aD 0 XD ∗ streamPost c b3 cc0_scoped7 aD 1 XD)

set_option backward.proofsInPublic true in
theorem bodyRun (gO W) (Q : PUnit → sProp 𝕄) :
    iprop(PRE c XU XD arg0 arg1 arg2 arg3 arg4 arg5 arg6 arg7 arg8 arg11 X0 X1 X2 X3 X4 X5 X6 X7 X8 gO W
        ∗ (POST c XU XD arg0 arg1 arg2 arg3 arg4 arg5 arg6 arg7 arg8 arg11 X0 X1 X2 X3 X4 X5 X6 X7 X8
            (outOf c XU XD arg0 arg1 arg2 arg3 arg4 arg5 arg6 arg7 arg8 X0 X1 X2 X3 X4 X5 X6 X7 X8) -∗ Q ⟨⟩))
      ⊢ wp frame (wpE (defs₀ (F := F)) 𝒱₀ (c : Thread nD τ) none) Set.univ (bodyG arg0 harg0 arg1 harg1 arg2 harg2 arg3 harg3 arg4 harg4 arg5 harg5 arg6 harg6 arg7 harg7 arg8 harg8 arg11 harg11) Q := by
  have c1 := cond1_at
  have c2 : k0_cond2 = 1#1 := cond1_at
  have c3 : k0_cond3 = 1#1 := cond1_at
  have c4 : k0_cond4 = 1#1 := cond1_at
  iintro ⟨⟨⟨H0, H1, H2, H3, H4, H5, H6, H7, H8⟩, HO, HW, ⟨A0, A0', S0, ⟨C0, ⟨%f0, B0⟩⟩, ⟨C0', ⟨%f0', B0'⟩⟩, E0⟩, ⟨A1, A1', S1, ⟨C1, ⟨%f1, B1⟩⟩, ⟨C1', ⟨%f1', B1'⟩⟩, E1⟩, ⟨A2, A2', S2, ⟨C2, ⟨%f2, B2⟩⟩, ⟨C2', ⟨%f2', B2'⟩⟩, E2⟩, ⟨A3, A3', S3, ⟨C3, ⟨%f3, B3⟩⟩, ⟨C3', ⟨%f3', B3'⟩⟩, E3⟩⟩, Hk⟩
  sl_exec
  sl_for (loopInv c XU XD arg7 arg8 arg11 X7 X8 (k0_pay5 (View.readAt (Elt F) arg0.view (Rect.unit (s := S64x512) ![0, 0] S64x512.size inb_S64x512_S64x512_0_0).toLoadRect X0))
    (k0_pay10 (v33Of c arg0 arg1 arg2 arg3 arg4 arg5 X0 X1 X2 X3 X4 X5) (v36Of c arg6 X6)) (k0_pay13 (v33Of c arg0 arg1 arg2 arg3 arg4 arg5 X0 X1 X2 X3 X4 X5) (v36Of c arg6 X6))
    (k0_pay15 (v33Of c arg0 arg1 arg2 arg3 arg4 arg5 X0 X1 X2 X3 X4 X5) (v36Of c arg6 X6)) (k0_pay16 (v33Of c arg0 arg1 arg2 arg3 arg4 arg5 X0 X1 X2 X3 X4 X5) (v36Of c arg6 X6)) k0_pay17) $$ [HO HW H7 H8 S0 E0 C0 C0' S1 E1 C1 C1' S2 E2 C2 C2' S3 E3 C3 C3']
  case region => exact loop_step c XU XD arg0 harg0 arg1 harg1 arg2 harg2 arg3 harg3 arg4 harg4 arg5 harg5 arg6 harg6 arg7 harg7 arg8 harg8 arg11 harg11 X7 X8 (k0_pay5 (View.readAt (Elt F) arg0.view (Rect.unit (s := S64x512) ![0, 0] S64x512.size inb_S64x512_S64x512_0_0).toLoadRect X0))     (k0_pay10 (v33Of c arg0 arg1 arg2 arg3 arg4 arg5 X0 X1 X2 X3 X4 X5) (v36Of c arg6 X6)) (k0_pay13 (v33Of c arg0 arg1 arg2 arg3 arg4 arg5 X0 X1 X2 X3 X4 X5) (v36Of c arg6 X6))     (k0_pay15 (v33Of c arg0 arg1 arg2 arg3 arg4 arg5 X0 X1 X2 X3 X4 X5) (v36Of c arg6 X6)) (k0_pay16 (v33Of c arg0 arg1 arg2 arg3 arg4 arg5 X0 X1 X2 X3 X4 X5) (v36Of c arg6 X6)) _ _ _ _ _ _ _ k0_pay17
  · unfold loopInv ringsAt restAt
    rw [ringAt_zero, ringAt_zero, ringAt_zero, ringAt_zero]
    isplitr
    · ipureintro
      unfold accW; simp only [Prod.mk.injEq]; decide +kernel
    isplitl [HO HW H7 H8]
    · iexists _
      isplitr
      rotate_left
      · isplitl [H7]; · iexact H7
        isplitl [H8]; · iexact H8
        isplitl [HO]; · iexact HO
        iexists _; iexact HW
      ipureintro
      exact View.readAt_writes_full _ _ _ _ _ _
    isplitl [S0 E0 C0 C0']
    · isplitl [S0]; · iexact S0
      isplitl [C0]; · iexists f0; iexact C0
      isplitl [C0']; · iexists f0'; iexact C0'
      iexact E0
    isplitl [S1 E1 C1 C1']
    · isplitl [S1]; · iexact S1
      isplitl [C1]; · iexists f1; iexact C1
      isplitl [C1']; · iexists f1'; iexact C1'
      iexact E1
    isplitl [S2 E2 C2 C2']
    · isplitl [S2]; · iexact S2
      isplitl [C2]; · iexists f2; iexact C2
      isplitl [C2']; · iexists f2'; iexact C2'
      iexact E2
    · isplitl [S3]; · iexact S3
      isplitl [C3]; · iexists f3; iexact C3
      isplitl [C3']; · iexists f3'; iexact C3'
      iexact E3
  iintro %acc HI
  rw [show Scf.trips k0_t1_loop.lb k0_t1_loop.ub k0_t1_loop.st = 64 from trips_eq]
  unfold loopInv ringsAt restAt
  rw [ringAt_last, ringAt_last, ringAt_last, ringAt_last]
  icases HI with ⟨-, ⟨%fo, %hfo, H7, H8, HO, HW⟩, R0, R1, R2, R3⟩
  obtain ⟨a0, a1, a2, a3, a4, a5, a6, a7, a8⟩ := acc
  sl_exec
  sl_step
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HO]
  · iexists fo
    isplitr
    rotate_left
    · iexact HO
    ipureintro
    exact (View.readAt_full _ _ _).symm.trans hfo
  isplitl [HW]; · iexact HW
  isplitl [R0]; · iexact R0
  isplitl [R1]; · iexact R1
  isplitl [R2]; · iexact R2
  iexact R3

end Body

end Cert.Moe

end
-- ==== Proof.Homes.lean ====
/-
  The weight arrays cut into their blocks, and the three-slot buffers into their slots: each held whole is held piece by
  piece, and back.
-/
module

public import proofs.«01_k».proof.Proof.Body

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ

theorem entails_of_eq {P Q : sProp 𝕄} (e : P = Q) : P ⊢ Q := e ▸ .rfl

/-! ## The pieces as sets of elements -/

abbrev blkSet (q : Fin 2) (b : Fin 64) : Finset S64x2x1024x512.Idx := (Rect.unit (s := S64x2x1024x512) (blkOff q b) S1x1x1024x512.size (blkOff_inb q b)).set
abbrev slotSet (s : Fin 3) : Finset S3x1x1x1024x512.Idx := (Rect.unit (s := S3x1x1x1024x512) (slotOff s) S1x1x1x1024x512.size (slotOff_inb s)).set

theorem mem_blkSet (q : Fin 2) (b : Fin 64) (y : S64x2x1024x512.Idx) : y ∈ blkSet q b ↔ (y 0).val = b.val ∧ (y 1).val = q.val := by
  rw [Rect.mem_set_unit]
  have h2 : (y 2).val < 1024 := (y 2).isLt
  have h3 : (y 3).val < 512 := (y 3).isLt
  constructor
  · intro H
    have a0 : b.val ≤ (y 0).val ∧ (y 0).val < b.val + 1 := H 0
    have a1 : q.val ≤ (y 1).val ∧ (y 1).val < q.val + 1 := H 1
    omega
  · intro H i; fin_cases i
    · show b.val ≤ (y 0).val ∧ (y 0).val < b.val + 1; omega
    · show q.val ≤ (y 1).val ∧ (y 1).val < q.val + 1; omega
    · show 0 ≤ (y 2).val ∧ (y 2).val < 0 + 1024; omega
    · show 0 ≤ (y 3).val ∧ (y 3).val < 0 + 512; omega
theorem mem_slotSet (s : Fin 3) (y : S3x1x1x1024x512.Idx) : y ∈ slotSet s ↔ (y 0).val = s.val := by
  rw [Rect.mem_set_unit]
  have h1 : (y 1).val < 1 := (y 1).isLt
  have h2 : (y 2).val < 1 := (y 2).isLt
  have h3 : (y 3).val < 1024 := (y 3).isLt
  have h4 : (y 4).val < 512 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1; omega
    · show 0 ≤ (y 3).val ∧ (y 3).val < 0 + 1024; omega
    · show 0 ≤ (y 4).val ∧ (y 4).val < 0 + 512; omega

theorem blkSet_disjoint (q : Fin 2) : ∀ b b' : Fin 64, b ≠ b' → Disjoint (blkSet q b) (blkSet q b') := by
  intro b b' hne; rw [Finset.disjoint_left]; intro y hy hy'; rw [mem_blkSet] at hy hy'; exact hne (Fin.ext (hy.1.symm.trans hy'.1))
/-- Half `q` of every expert's block. -/
def halfSet (q : Fin 2) : Finset S64x2x1024x512.Idx := Finset.univ.biUnion (blkSet q)
theorem mem_halfSet (q : Fin 2) (y : S64x2x1024x512.Idx) : y ∈ halfSet q ↔ (y 1).val = q.val := by
  unfold halfSet
  simp only [Finset.mem_biUnion, Finset.mem_univ, true_and, mem_blkSet]
  exact ⟨fun ⟨_, h⟩ => h.2, fun h => ⟨(y 0).cast rfl, rfl, h⟩⟩
theorem halfSet_disjoint : ∀ q q' : Fin 2, q ≠ q' → Disjoint (halfSet q) (halfSet q') := by
  intro q q' hne; rw [Finset.disjoint_left]; intro y hy hy'; rw [mem_halfSet] at hy hy'; exact hne (Fin.ext (hy.symm.trans hy'))
theorem halfSet_cover : (Finset.univ : Finset (Fin 2)).biUnion halfSet = Finset.univ := by
  ext y; simp only [Finset.mem_biUnion, Finset.mem_univ, true_and, iff_true]; exact ⟨(y 1).cast rfl, by rw [mem_halfSet]; rfl⟩
theorem slotSet_disjoint : ∀ s s' : Fin 3, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 3)).biUnion slotSet = Finset.univ := by
  ext y; simp only [Finset.mem_biUnion, Finset.mem_univ, true_and, iff_true]; exact ⟨(y 0).cast rfl, by rw [mem_slotSet]; rfl⟩

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-! ## The arrays -/

theorem blk_setU (q b) : (blk aU q b).view.set = blkSet q b := View.set_slice_whole _ _
theorem blk_setD (q b) : (blk aD q b).view.set = blkSet q b := View.set_slice_whole _ _

/-- The up-projection's array whole is its blocks at home, half by half; -/
theorem arrU_eq (c : Dev nD) (X : Buf (Elt F) ((c : Thread nD τ).loc main_v3)) :
    (((c : Thread nD τ).loc main_v3) ↦{fullShare} X : sProp 𝕄)
      = iprop(bigSep Finset.univ (homeP c aU 0 X) ∗ bigSep Finset.univ (homeP c aU 1 X)) := by
  rw [Ring.pointsTo_blocks (ℓ := (c : Thread nD τ).loc main_v3) halfSet halfSet_disjoint halfSet_cover, Ring.bigSep_fin2]
  unfold halfSet
  rw [pointsTo_biUnion _ _ (fun b _ b' _ h => blkSet_disjoint 0 b b' h), pointsTo_biUnion _ _ (fun b _ b' _ h => blkSet_disjoint 1 b b' h)]
  exact congrArg₂ (fun P Q => iprop(P ∗ Q)) (bigSep_congr fun b _ => by rw [← blk_setU]; rfl) (bigSep_congr fun b _ => by rw [← blk_setU]; rfl)
/-- and so the down-projection's. -/
theorem arrD_eq (c : Dev nD) (X : Buf (Elt F) ((c : Thread nD τ).loc main_v4)) :
    (((c : Thread nD τ).loc main_v4) ↦{fullShare} X : sProp 𝕄)
      = iprop(bigSep Finset.univ (homeP c aD 0 X) ∗ bigSep Finset.univ (homeP c aD 1 X)) := by
  rw [Ring.pointsTo_blocks (ℓ := (c : Thread nD τ).loc main_v4) halfSet halfSet_disjoint halfSet_cover, Ring.bigSep_fin2]
  unfold halfSet
  rw [pointsTo_biUnion _ _ (fun b _ b' _ h => blkSet_disjoint 0 b b' h), pointsTo_biUnion _ _ (fun b _ b' _ h => blkSet_disjoint 1 b b' h)]
  exact congrArg₂ (fun P Q => iprop(P ∗ Q)) (bigSep_congr fun b _ => by rw [← blk_setD]; rfl) (bigSep_congr fun b _ => by rw [← blk_setD]; rfl)

/-- Blocks 0 and 1 apart from the rest. -/
theorem homes_zero (c : Dev nD) (A : Memref sig .tc .hbm S64x2x1024x512 .f32) (q : Fin 2) (X : Buf (Elt F) (A.view.loc (c : Thread nD τ))) :
    bigSep Finset.univ (homeP c A q X) = iprop(homeP c A q X 0 ∗ homeP c A q X 1 ∗ bigSep (Ring.homeSet 2 0) (homeP c A q X)) := by
  have e : (Finset.univ : Finset (Fin 64)) = insert 0 (insert 1 (Ring.homeSet (NB := 64) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

/-! ## The buffers -/

section Slots
variable {ℓ : Loc nD τ sig} (S : Fin 3 → Finset (Idx ℓ)) (hd : ∀ s s', s ≠ s' → Disjoint (S s) (S s')) (hc : Finset.univ.biUnion S = Finset.univ)
include hd hc
theorem three_split : iprop(∃ f : Buf (Elt F) ℓ, ℓ ↦{fullShare} f)
    ⊢ (iprop((∃ f, ℓ ↦[S 0]{fullShare} f) ∗ (∃ f, ℓ ↦[S 1]{fullShare} f) ∗ ∃ f, ℓ ↦[S 2]{fullShare} f) : sProp 𝕄) := by
  iintro ⟨%f, H⟩
  ihave H2 := (entails_of_eq ((Ring.pointsTo_blocks (Ix := Unit) (Name := ℕ) (U := UU) (Lvl := ℕ) (q := fullShare) S hd hc f).trans (bigSep_fin3 _))) $$ H
  icases H2 with ⟨H0, H1, H2⟩
  isplitl [H0]; · iexists f; iexact H0
  isplitl [H1]; · iexists f; iexact H1
  iexists f; iexact H2
theorem three_join : iprop((∃ f, ℓ ↦[S 0]{fullShare} f) ∗ (∃ f, ℓ ↦[S 1]{fullShare} f) ∗ ∃ f, ℓ ↦[S 2]{fullShare} f)
    ⊢ (iprop(∃ f : Buf (Elt F) ℓ, ℓ ↦{fullShare} f) : sProp 𝕄) := by
  iintro ⟨⟨%f0, H0⟩, H1, H2⟩
  iapply (Ring.pointsTo_blocks_join_exists S hd hc f0)
  irw [bigSep_fin3]
  isplitl [H0]; · iexists f0; iexact H0
  isplitl [H1]; · iexact H1
  iexact H2
end Slots

theorem slot_set0 (s) : (slot b0 s).view.set = slotSet s := (View.set_reshape _ _).trans (View.set_slice_whole _ _)
theorem slot_set1 (s) : (slot b1 s).view.set = slotSet s := (View.set_reshape _ _).trans (View.set_slice_whole _ _)
theorem slot_set2 (s) : (slot b2 s).view.set = slotSet s := (View.set_reshape _ _).trans (View.set_slice_whole _ _)
theorem slot_set3 (s) : (slot b3 s).view.set = slotSet s := (View.set_reshape _ _).trans (View.set_slice_whole _ _)

/-- A stream's three slots, at anything. -/
abbrev slotsP (c : Dev nD) (B : Memref sig .tc .vmem S3x1x1x1024x512 .f32) : sProp 𝕄 :=
  iprop((∃ f, slotP c B 0 f) ∗ (∃ f, slotP c B 1 f) ∗ ∃ f, slotP c B 2 f)
/-- A stream's buffer, whole at anything. -/
abbrev wholeP (c : Dev nD) (b : Ref sig .tc) : sProp 𝕄 :=
  iprop(∃ f : Buf (Elt F) ((c : Thread nD τ).loc b), ((c : Thread nD τ).loc b) ↦{fullShare} f)
theorem slots0 (c : Dev nD) : (slotsP (F := F) c b0) = iprop((∃ f, ((c : Thread nD τ).loc cc0_scoped0) ↦[slotSet 0]{fullShare} f)
    ∗ (∃ f, ((c : Thread nD τ).loc cc0_scoped0) ↦[slotSet 1]{fullShare} f) ∗ ∃ f, ((c : Thread nD τ).loc cc0_scoped0) ↦[slotSet 2]{fullShare} f) := by
  unfold slotsP slotP; rw [slot_set0, slot_set0, slot_set0]; rfl
theorem slots1 (c : Dev nD) : (slotsP (F := F) c b1) = iprop((∃ f, ((c : Thread nD τ).loc cc0_scoped2) ↦[slotSet 0]{fullShare} f)
    ∗ (∃ f, ((c : Thread nD τ).loc cc0_scoped2) ↦[slotSet 1]{fullShare} f) ∗ ∃ f, ((c : Thread nD τ).loc cc0_scoped2) ↦[slotSet 2]{fullShare} f) := by
  unfold slotsP slotP; rw [slot_set1, slot_set1, slot_set1]; rfl
theorem slots2 (c : Dev nD) : (slotsP (F := F) c b2) = iprop((∃ f, ((c : Thread nD τ).loc cc0_scoped4) ↦[slotSet 0]{fullShare} f)
    ∗ (∃ f, ((c : Thread nD τ).loc cc0_scoped4) ↦[slotSet 1]{fullShare} f) ∗ ∃ f, ((c : Thread nD τ).loc cc0_scoped4) ↦[slotSet 2]{fullShare} f) := by
  unfold slotsP slotP; rw [slot_set2, slot_set2, slot_set2]; rfl
theorem slots3 (c : Dev nD) : (slotsP (F := F) c b3) = iprop((∃ f, ((c : Thread nD τ).loc cc0_scoped6) ↦[slotSet 0]{fullShare} f)
    ∗ (∃ f, ((c : Thread nD τ).loc cc0_scoped6) ↦[slotSet 1]{fullShare} f) ∗ ∃ f, ((c : Thread nD τ).loc cc0_scoped6) ↦[slotSet 2]{fullShare} f) := by
  unfold slotsP slotP; rw [slot_set3, slot_set3, slot_set3]; rfl

theorem split0 (c : Dev nD) : wholeP (F := F) c cc0_scoped0 ⊢ slotsP (F := F) c b0 := (three_split (ℓ := (c : Thread nD τ).loc cc0_scoped0) slotSet slotSet_disjoint slotSet_cover).trans (entails_of_eq (slots0 c).symm)
theorem split1 (c : Dev nD) : wholeP (F := F) c cc0_scoped2 ⊢ slotsP (F := F) c b1 := (three_split (ℓ := (c : Thread nD τ).loc cc0_scoped2) slotSet slotSet_disjoint slotSet_cover).trans (entails_of_eq (slots1 c).symm)
theorem split2 (c : Dev nD) : wholeP (F := F) c cc0_scoped4 ⊢ slotsP (F := F) c b2 := (three_split (ℓ := (c : Thread nD τ).loc cc0_scoped4) slotSet slotSet_disjoint slotSet_cover).trans (entails_of_eq (slots2 c).symm)
theorem split3 (c : Dev nD) : wholeP (F := F) c cc0_scoped6 ⊢ slotsP (F := F) c b3 := (three_split (ℓ := (c : Thread nD τ).loc cc0_scoped6) slotSet slotSet_disjoint slotSet_cover).trans (entails_of_eq (slots3 c).symm)
theorem join0 (c : Dev nD) : slotsP (F := F) c b0 ⊢ wholeP (F := F) c cc0_scoped0 := (entails_of_eq (slots0 c)).trans (three_join (ℓ := (c : Thread nD τ).loc cc0_scoped0) slotSet slotSet_disjoint slotSet_cover)
theorem join1 (c : Dev nD) : slotsP (F := F) c b1 ⊢ wholeP (F := F) c cc0_scoped2 := (entails_of_eq (slots1 c)).trans (three_join (ℓ := (c : Thread nD τ).loc cc0_scoped2) slotSet slotSet_disjoint slotSet_cover)
theorem join2 (c : Dev nD) : slotsP (F := F) c b2 ⊢ wholeP (F := F) c cc0_scoped4 := (entails_of_eq (slots2 c)).trans (three_join (ℓ := (c : Thread nD τ).loc cc0_scoped4) slotSet slotSet_disjoint slotSet_cover)
theorem join3 (c : Dev nD) : slotsP (F := F) c b3 ⊢ wholeP (F := F) c cc0_scoped6 := (entails_of_eq (slots3 c)).trans (three_join (ℓ := (c : Thread nD τ).loc cc0_scoped6) slotSet slotSet_disjoint slotSet_cover)

end Cert.Moe

end
-- ==== Proof.Run.lean ====
/-
  The kernel's run: what it leaves in memory, at any float values.
-/
module

public import proofs.«01_k».proof.Proof.Homes
public import proofs.«01_k».proof.Proof.Gen.KernelIdeal.Frame
public import Idealize.ShloMosaic.Lib.Pipeline.FrameSuffix

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ

variable (m : (ℓ : Loc nD τ sig) → Buf (Elt F) ℓ) (ρ : Dev nD → PrngReg)

/-- The two weight arrays as the region finds them. -/
abbrev XU (c : Dev nD) : Buf (Elt F) (aU.view.loc (c : Thread nD τ)) := V m c main_v3
abbrev XD (c : Dev nD) : Buf (Elt F) (aD.view.loc (c : Thread nD τ)) := V m c main_v4

/-! ## The kernel's own semaphores -/

abbrev osem : Fin 12 → SemLoc sig :=
  ![.dma (csm cc0_scoped1 0).sem, .dma (csm cc0_scoped1 1).sem, .dma (csm cc0_scoped1 2).sem, .dma (csm cc0_scoped3 0).sem, .dma (csm cc0_scoped3 1).sem, .dma (csm cc0_scoped3 2).sem, .dma (csm cc0_scoped5 0).sem, .dma (csm cc0_scoped5 1).sem, .dma (csm cc0_scoped5 2).sem, .dma (csm cc0_scoped7 0).sem, .dma (csm cc0_scoped7 1).sem, .dma (csm cc0_scoped7 2).sem]
theorem ownSemFacts : Pipeline.OwnSemFacts spec0 osem := by decide

theorem ownSems0_eq (c : Dev nD) : (Pipeline.ownSems0 (Ix := Unit) (Name := ℕ) (U := UU) (Lvl := ℕ) (Val := Elt F) (τ := τ) osem c : sProp 𝕄)
    = iprop(cellP c cc0_scoped1 0 ∗ cellP c cc0_scoped1 1 ∗ cellP c cc0_scoped1 2 ∗ cellP c cc0_scoped3 0 ∗ cellP c cc0_scoped3 1 ∗ cellP c cc0_scoped3 2 ∗ cellP c cc0_scoped5 0 ∗ cellP c cc0_scoped5 1 ∗ cellP c cc0_scoped5 2 ∗ cellP c cc0_scoped7 0 ∗ cellP c cc0_scoped7 1 ∗ cellP c cc0_scoped7 2) :=
  Pipeline.ownSems0_eq_of_list c osem [0, 1, 2, 3, 4, 5, 6, 7, 8, 9, 10, 11] (by decide) (by decide)

/-! ## The pipeline's proof data -/

/-- What the body finds beside its windows, and gives back: the weights at home, every slot free, the generator. -/
def Φ (c : Dev nD) : sProp 𝕄 :=
  iprop((∃ r, prngReg c r) ∗ streamPost c b0 cc0_scoped1 aU 0 (XU m c) ∗ streamPost c b1 cc0_scoped3 aU 1 (XU m c) ∗ streamPost c b2 cc0_scoped5 aD 0 (XD m c) ∗ streamPost c b3 cc0_scoped7 aD 1 (XD m c))

abbrev st0 (t : Fin cfg0.N) := win0_0.stage (cfg0.slots t 0)
abbrev hst0 (t : Fin cfg0.N) : (st0 t).IsWhole := hstage0_0 0
abbrev st1 (t : Fin cfg0.N) := win0_1.stage (cfg0.slots t 1)
abbrev hst1 (t : Fin cfg0.N) : (st1 t).IsWhole := hstage0_1 0
abbrev st2 (t : Fin cfg0.N) := win0_2.stage (cfg0.slots t 2)
abbrev hst2 (t : Fin cfg0.N) : (st2 t).IsWhole := hstage0_2 0
abbrev st3 (t : Fin cfg0.N) := win0_3.stage (cfg0.slots t 3)
abbrev hst3 (t : Fin cfg0.N) : (st3 t).IsWhole := hstage0_3 0
abbrev st4 (t : Fin cfg0.N) := win0_4.stage (cfg0.slots t 4)
abbrev hst4 (t : Fin cfg0.N) : (st4 t).IsWhole := hstage0_4 0
abbrev st5 (t : Fin cfg0.N) := win0_5.stage (cfg0.slots t 5)
abbrev hst5 (t : Fin cfg0.N) : (st5 t).IsWhole := hstage0_5 0
abbrev st6 (t : Fin cfg0.N) := win0_6.stage (cfg0.slots t 6)
abbrev hst6 (t : Fin cfg0.N) : (st6 t).IsWhole := hstage0_6 0
abbrev st7 (t : Fin cfg0.N) := win0_7.stage (cfg0.slots t 7)
abbrev hst7 (t : Fin cfg0.N) : (st7 t).IsWhole := hstage0_7 0
abbrev st8 (t : Fin cfg0.N) := win0_8.stage (cfg0.slots t 8)
abbrev hst8 (t : Fin cfg0.N) : (st8 t).IsWhole := hstage0_8 0
abbrev st9 (t : Fin cfg0.N) := win0_9.stage (cfg0.slots t 9)
abbrev hst9 (t : Fin cfg0.N) : (st9 t).IsWhole := hstage0_9 0

/-- What the body leaves in the output's staging buffer. -/
def outAt (c : Dev nD) (t : Fin cfg0.N) : FVec F S64x512 .f32 :=
  outOf c (XU m c) (XD m c) (st0 t) (st1 t) (st2 t) (st3 t) (st4 t) (st5 t) (st6 t) (st7 t) (st8 t)
    ((st0 t).view.rep (iblk m c 0 t)) ((st1 t).view.rep (iblk m c 1 t)) ((st2 t).view.rep (iblk m c 2 t)) ((st3 t).view.rep (iblk m c 3 t)) ((st4 t).view.rep (iblk m c 4 t)) ((st5 t).view.rep (iblk m c 5 t)) ((st6 t).view.rep (iblk m c 6 t)) ((st7 t).view.rep (iblk m c 7 t)) ((st8 t).view.rep (iblk m c 8 t))

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem after_w5 (c : Dev nD) (t : Fin cfg0.N) : (dats m 0 c).after 5 t = iblk m c 5 t := by dsimp only [dats]
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem after_w6 (c : Dev nD) (t : Fin cfg0.N) : (dats m 0 c).after 6 t = iblk m c 6 t := by dsimp only [dats]
theorem before_w7 (c : Dev nD) (t : Fin cfg0.N) (d) : (dats m 0 c).before 7 t d = iblk m c 7 t := by
  unfold Dat.before; rw [if_pos (fetch0_7 t)]; unfold Dat.fetched Dat.blockOf iblk; dsimp only [dats]; rfl
theorem after_w7 (c : Dev nD) (t : Fin cfg0.N) : (dats m 0 c).after 7 t = iblk m c 7 t := by dsimp only [dats]
theorem before_w8 (c : Dev nD) (t : Fin cfg0.N) (d) : (dats m 0 c).before 8 t d = iblk m c 8 t := by
  unfold Dat.before; rw [if_pos (fetch0_8 t)]; unfold Dat.fetched Dat.blockOf iblk; dsimp only [dats]; rfl
theorem after_w8 (c : Dev nD) (t : Fin cfg0.N) : (dats m 0 c).after 8 t = iblk m c 8 t := by dsimp only [dats]
theorem after_w9 (c : Dev nD) (t : Fin cfg0.N) : (dats m 0 c).after 9 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) (win0_9.stage (a.2 9)) (hstage0_9 0) := rfl
theorem prog_eq (t : Fin cfg0.N) : (defs₀ (F := F)) .tc cfg0.body (cfg0.bodyArgs t (cfg0.slots t)) = bodyG (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) :=
  (congrFun defs_tc _).trans rfl

set_option backward.isDefEq.respectTransparency.types false in
set_option maxHeartbeats 4000000 in
theorem body_obligation (c : Dev nD) : BodyObligation (dats (F := F) m 0 c) (defs₀ (F := F)) 𝒱₀ () Set.univ := fun t => by
  rw [bigSep_W0, bigSep_W0]
  dsimp only
  simp only [before_w0, after_w0, before_w1, after_w1, before_w2, after_w2, before_w3, after_w3, before_w4, after_w4, before_w5, after_w5, before_w6, after_w6, before_w7, after_w7, before_w8, after_w8, after_w9]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hp, ⟨A0, P0, Q0, R0⟩, ⟨A1, P1, Q1, R1⟩, ⟨A2, P2, Q2, R2⟩, ⟨A3, P3, Q3, R3⟩⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %gO, -, HO⟩⟩
  ihave A0' := (entails_of_eq (homes_zero c aU 0 (XU m c))) $$ A0
  icases A0' with ⟨A0, B0, C0⟩
  ihave A1' := (entails_of_eq (homes_zero c aU 1 (XU m c))) $$ A1
  icases A1' with ⟨A1, B1, C1⟩
  ihave A2' := (entails_of_eq (homes_zero c aD 0 (XD m c))) $$ A2
  icases A2' with ⟨A2, B2, C2⟩
  ihave A3' := (entails_of_eq (homes_zero c aD 1 (XD m c))) $$ A3
  icases A3' with ⟨A3, B3, C3⟩
  ihave G0 := (pointsTo_rep_entails (c : Thread nD τ) (st0 t) g0 fullShare) $$ H0
  rw [hg0]
  ihave G1 := (pointsTo_rep_entails (c : Thread nD τ) (st1 t) g1 fullShare) $$ H1
  rw [hg1]
  ihave G2 := (pointsTo_rep_entails (c : Thread nD τ) (st2 t) g2 fullShare) $$ H2
  rw [hg2]
  ihave G3 := (pointsTo_rep_entails (c : Thread nD τ) (st3 t) g3 fullShare) $$ H3
  rw [hg3]
  ihave G4 := (pointsTo_rep_entails (c : Thread nD τ) (st4 t) g4 fullShare) $$ H4
  rw [hg4]
  ihave G5 := (pointsTo_rep_entails (c : Thread nD τ) (st5 t) g5 fullShare) $$ H5
  rw [hg5]
  ihave G6 := (pointsTo_rep_entails (c : Thread nD τ) (st6 t) g6 fullShare) $$ H6
  rw [hg6]
  ihave G7 := (pointsTo_rep_entails (c : Thread nD τ) (st7 t) g7 fullShare) $$ H7
  rw [hg7]
  ihave G8 := (pointsTo_rep_entails (c : Thread nD τ) (st8 t) g8 fullShare) $$ H8
  rw [hg8]
  sl_rw [prog_eq t]
  iapply (bodyRun c (XU m c) (XD m c) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t)
    _ _ _ _ _ _ _ _ _ gO W)
  isplitr [Hp]
  · isplitl [G0 G1 G2 G3 G4 G5 G6 G7 G8]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      iexact G8
    isplitl [HO]; · iexact HO
    isplitl [HW]; · iexact HW
    isplitl [A0 B0 C0 P0 Q0 R0]
    · isplitl [A0]; · iexact A0
      isplitl [B0]; · iexact B0
      isplitl [C0]; · iexact C0
      isplitl [R0]; · iexact R0
      isplitl [P0]; · iexact P0
      iexact Q0
    isplitl [A1 B1 C1 P1 Q1 R1]
    · isplitl [A1]; · iexact A1
      isplitl [B1]; · iexact B1
      isplitl [C1]; · iexact C1
      isplitl [R1]; · iexact R1
      isplitl [P1]; · iexact P1
      iexact Q1
    isplitl [A2 B2 C2 P2 Q2 R2]
    · isplitl [A2]; · iexact A2
      isplitl [B2]; · iexact B2
      isplitl [C2]; · iexact C2
      isplitl [R2]; · iexact R2
      isplitl [P2]; · iexact P2
      iexact Q2
    · isplitl [A3]; · iexact A3
      isplitl [B3]; · iexact B3
      isplitl [C3]; · iexact C3
      isplitl [R3]; · iexact R3
      isplitl [P3]; · iexact P3
      iexact Q3
  · iintro ⟨⟨G0, G1, G2, G3, G4, G5, G6, G7, G8⟩, ⟨%fo, %hfo, HO⟩, ⟨%W', HW⟩, K0, K1, K2, K3⟩
    isplitl [Hp K0 K1 K2 K3]
    · isplitl [Hp]; · iexact Hp
      isplitl [K0]; · iexact K0
      isplitl [K1]; · iexact K1
      isplitl [K2]; · iexact K2
      iexact K3
    isplitl [HW]
    · iexists W'; isplitr; · ipureintro; exact fun _ _ => Or.inl trivial
      iexact HW
    isplitl [G0]
    · iexists _; isplitr; · ipureintro; exact View.read_rep _ _
      iexact G0
    isplitl [G1]
    · iexists _; isplitr; · ipureintro; exact View.read_rep _ _
      iexact G1
    isplitl [G2]
    · iexists _; isplitr; · ipureintro; exact View.read_rep _ _
      iexact G2
    isplitl [G3]
    · iexists _; isplitr; · ipureintro; exact View.read_rep _ _
      iexact G3
    isplitl [G4]
    · iexists _; isplitr; · ipureintro; exact View.read_rep _ _
      iexact G4
    isplitl [G5]
    · iexists _; isplitr; · ipureintro; exact View.read_rep _ _
      iexact G5
    isplitl [G6]
    · iexists _; isplitr; · ipureintro; exact View.read_rep _ _
      iexact G6
    isplitl [G7]
    · iexists _; isplitr; · ipureintro; exact View.read_rep _ _
      iexact G7
    isplitl [G8]
    · iexists _; isplitr; · ipureintro; exact View.read_rep _ _
      iexact G8
    iexists fo; isplitr; · ipureintro; exact hfo
    iexact HO

/-! ## In and out of the launch -/

abbrev HH : Finset (Ref sig .tc) := {main_v3, main_v4}
theorem HH_sub : HH ⊆ Pipeline.restRefs sig spec0 := by decide
theorem bigSep_HH (P : Ref sig .tc → sProp 𝕄) : bigSep HH P = iprop(P main_v3 ∗ P main_v4) :=
  bigSep_eq_bigSepL_of_eq [main_v3, main_v4] (by decide) (by decide) P

theorem Φ_in (c : Dev nD) : Pipeline.ΦD osem spec0 HH (V m) c ⊢ Φ m c := by
  rw [Pipeline.ΦD_eq, scopedRest0_eq, ownSems0_eq, bigSep_HH]
  unfold Φ
  iintro ⟨⟨S0, S1, S2, S3⟩, Hp, ⟨C00, C01, C02, C10, C11, C12, C20, C21, C22, C30, C31, C32⟩, U, D⟩
  ihave U' := (entails_of_eq (arrU_eq c (XU m c))) $$ U
  ihave D' := (entails_of_eq (arrD_eq c (XD m c))) $$ D
  icases U' with ⟨A0, A1⟩
  icases D' with ⟨A2, A3⟩
  ihave T0 := (split0 c) $$ S0
  icases T0 with ⟨T00, T01, T02⟩
  ihave T1 := (split1 c) $$ S1
  icases T1 with ⟨T10, T11, T12⟩
  ihave T2 := (split2 c) $$ S2
  icases T2 with ⟨T20, T21, T22⟩
  ihave T3 := (split3 c) $$ S3
  icases T3 with ⟨T30, T31, T32⟩
  isplitl [Hp]; · iexact Hp
  isplitl [A0 C00 C01 C02 T00 T01 T02]
  · isplitl [A0]; · iexact A0
    isplitl [C01 T01]
    · isplitl [C01]; · iexact C01
      iexact T01
    isplitl [C02 T02]
    · isplitl [C02]; · iexact C02
      iexact T02
    isplitl [C00]; · iexact C00
    iexact T00
  isplitl [A1 C10 C11 C12 T10 T11 T12]
  · isplitl [A1]; · iexact A1
    isplitl [C11 T11]
    · isplitl [C11]; · iexact C11
      iexact T11
    isplitl [C12 T12]
    · isplitl [C12]; · iexact C12
      iexact T12
    isplitl [C10]; · iexact C10
    iexact T10
  isplitl [A2 C20 C21 C22 T20 T21 T22]
  · isplitl [A2]; · iexact A2
    isplitl [C21 T21]
    · isplitl [C21]; · iexact C21
      iexact T21
    isplitl [C22 T22]
    · isplitl [C22]; · iexact C22
      iexact T22
    isplitl [C20]; · iexact C20
    iexact T20
  · isplitl [A3]; · iexact A3
    isplitl [C31 T31]
    · isplitl [C31]; · iexact C31
      iexact T31
    isplitl [C32 T32]
    · isplitl [C32]; · iexact C32
      iexact T32
    isplitl [C30]; · iexact C30
    iexact T30
theorem Φ_out (c : Dev nD) : Φ m c ⊢ Pipeline.ΦD osem spec0 HH (V m) c := by
  rw [Pipeline.ΦD_eq, scopedRest0_eq, ownSems0_eq, bigSep_HH]
  unfold Φ
  iintro ⟨Hp, ⟨A0, ⟨C01, T01⟩, ⟨C02, T02⟩, ⟨C00, T00⟩⟩, ⟨A1, ⟨C11, T11⟩, ⟨C12, T12⟩, ⟨C10, T10⟩⟩, ⟨A2, ⟨C21, T21⟩, ⟨C22, T22⟩, ⟨C20, T20⟩⟩, ⟨A3, ⟨C31, T31⟩, ⟨C32, T32⟩, ⟨C30, T30⟩⟩⟩
  isplitl [T00 T01 T02 T10 T11 T12 T20 T21 T22 T30 T31 T32]
  · isplitl [T00 T01 T02]
    · iapply (join0 c)
      isplitl [T00]; · iexact T00
      isplitl [T01]; · iexact T01
      iexact T02
    isplitl [T10 T11 T12]
    · iapply (join1 c)
      isplitl [T10]; · iexact T10
      isplitl [T11]; · iexact T11
      iexact T12
    isplitl [T20 T21 T22]
    · iapply (join2 c)
      isplitl [T20]; · iexact T20
      isplitl [T21]; · iexact T21
      iexact T22
    · iapply (join3 c)
      isplitl [T30]; · iexact T30
      isplitl [T31]; · iexact T31
      iexact T32
  isplitl [Hp]; · iexact Hp
  isplitl [C00 C01 C02 C10 C11 C12 C20 C21 C22 C30 C31 C32]
  · isplitl [C00]; · iexact C00
    isplitl [C01]; · iexact C01
    isplitl [C02]; · iexact C02
    isplitl [C10]; · iexact C10
    isplitl [C11]; · iexact C11
    isplitl [C12]; · iexact C12
    isplitl [C20]; · iexact C20
    isplitl [C21]; · iexact C21
    isplitl [C22]; · iexact C22
    isplitl [C30]; · iexact C30
    isplitl [C31]; · iexact C31
    iexact C32
  isplitl [A0 A1]
  · iapply (entails_of_eq (arrU_eq c (XU m c)).symm)
    isplitl [A0]; · iexact A0
    iexact A1
  · iapply (entails_of_eq (arrD_eq c (XD m c)).symm)
    isplitl [A2]; · iexact A2
    iexact A3

/-! ## The run -/

theorem hmain' : Pipeline.HMainK (Ix := Unit) (Name := ℕ) (U := UU) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subBut : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [HH, Finset.mem_insert, Finset.mem_singleton] at hb
  rw [StableHlo.reshape_bufs]
  rcases hb with rfl | rfl <;> simp only [Finset.mem_insert, Finset.mem_singleton, not_or] <;>
    exact ⟨StableHlo.devRef_ne_of_ne (by decide), StableHlo.devRef_ne_of_ne (by decide)⟩

theorem run_post : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts HH HH_sub m ρ main
    (fun c => (body_obligation m c).loose) (fun c => (dats m 0 c).share_full fun _ => rfl) (fun _ _ => rfl)
    (V0 m) [hostOps1] sfx_subBut sfx_fresh sfx_keeps (hmain' m) (fun _ _ => rfl) (Φ_in m) (Φ_out m) (Q' := _)
    (hQ' := fun _ h => h)

end Cert.Moe

end
-- ==== Proof.Frames.lean ====
/-
  The kernel's arguments end as they began, at any float values; and what its result array holds at the end.
-/
module

public import proofs.«01_k».proof.Defs
public import proofs.«01_k».proof.Proof.Gen.Kernel
public import proofs.«01_k».proof.Proof.Run
public import Idealize.ShloMosaic.Lib.Pipeline.ValueKit.Geometry

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI Idealize.SL.Sem
open Idealize.ShloMosaic.Rounds Idealize.ShloMosaic.Pipeline

variable {F : FTy → Type} [FloatOps F]
variable (m : (ℓ : Loc nD τ sig) → Buf (Elt F) ℓ) (ρ : Dev nD → PrngReg)

/-- What memory holds at the end: the arrays the region stages, and the rest after the last reshape. -/
abbrev Post (r : PUnit × MemSt nD τ sig (Elt F)) : Prop :=
  Pipeline.FramePost cfgs (dats m) 0 (Pipeline.afterTail₀ cfgs (dats m) 0 (V0 m) [hostOps1]) r

/-- A buffer that no window stages and the last reshape does not write ends as the region found it. -/
theorem tail_keeps (c : Dev nD) (b : Ref sig .tc) (hb : b ≠ main_v9) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

theorem rest_of (r) (h : Post m r) (c : Dev nD) (b : Ref sig .tc) (hr : b ∈ Pipeline.restRefs sig spec0) (hb : b ≠ main_v9)
    (hw : ∀ w, Pipeline.arrRef spec0 w ≠ b) : r.2.mem ((c : Thread nD τ).loc b) = V m c b :=
  ((h c).2 b hr).trans (tail_keeps m c b hb hw)
theorem in_of (r) (h : Post m r) (c : Dev nD) (w : Fin 10) (hw : (cfg0.win w).isOut = false) :
    r.2.mem ((spec0 w).arr.view.loc (c : Thread nD τ)) = V m c (Pipeline.arrRef spec0 w) :=
  ((h c).1 w).trans ((dats m 0 c).arrAt_in w hw _)

/-- The eleven arguments end as they began. -/
theorem args_of (r) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(rest_of m r h c main_arg0 (by decide) (by decide) (by decide)).trans (V_main_arg0 m c),
    (in_of m r h c 1 rfl).trans (V_main_arg1 m c),
    (rest_of m r h c main_arg2 (by decide) (by decide) (by decide)).trans (V_main_arg2 m c),
    (in_of m r h c 3 rfl).trans (V_main_arg3 m c),
    (rest_of m r h c main_arg4 (by decide) (by decide) (by decide)).trans (V_main_arg4 m c),
    (in_of m r h c 5 rfl).trans (V_main_arg5 m c),
    (rest_of m r h c main_arg6 (by decide) (by decide) (by decide)).trans (V_main_arg6 m c),
    (rest_of m r h c main_arg7 (by decide) (by decide) (by decide)).trans (V_main_arg7 m c),
    (rest_of m r h c main_arg8 (by decide) (by decide) (by decide)).trans (V_main_arg8 m c),
    (rest_of m r h c main_arg9 (by decide) (by decide) (by decide)).trans (V_main_arg9 m c),
    (rest_of m r h c main_arg10 (by decide) (by decide) (by decide)).trans (V_main_arg10 m c)⟩

/-- The one block the output window writes back is the whole array. -/
theorem out_arr (c : Dev nD) : (dats m 0 c).arrAt 9 cfg0.N = outAt m c t0_0 :=
  (dats m 0 c).arrAt_eq_of_after_last (9 : Fin 10) t0_0 (by decide +kernel) (outAt m c t0_0) fun j => by
    rw [after_w9]; rfl

/-- What the last reshape leaves in the result. -/
theorem tail_result (c : Dev nD) : Pipeline.afterTail₀ cfgs (dats m) 0 (V0 m) [hostOps1] c main_v9
    = shapeCast S2x32x512 ((dats m 0 c).arrAt 9 cfg0.N : FVec F S64x512 .f32) shapeCasts_S64x512_S2x32x512 := by
  have e : Pipeline.withArrays spec0 c (V0 m c) (fun w => (dats m 0 c).arrAt w cfg0.N) (Proc.devRef .tc main_v8)
      = (dats m 0 c).arrAt 9 cfg0.N := Pipeline.withArrays_arr spec0 launch0.win.arr_inj c (V0 m c) _ (9 : Fin 10)
  unfold Pipeline.afterTail₀
  rw [show ([hostOps1] : List (List (HloOp τ sig (Elt F)))).flatten = [StableHlo.reshape main_v8 main_v9 (rfl : (.f32 : EltTy) = .f32) shapeCasts_S64x512_S2x32x512] from rfl,
    StableHlo.after_cons, StableHlo.after_nil, StableHlo.reshape_result]
  exact congrArg (fun X : FVec F S64x512 .f32 => shapeCast S2x32x512 X shapeCasts_S64x512_S2x32x512) e

/-- The result: the block the body leaves, reshaped. -/
theorem result_of (r) (h : Post m r) (c : Dev nD) :
    r.2.mem ((c.tc : Thread nD τ).loc main_v9) = shapeCast S2x32x512 (outAt m c t0_0) shapeCasts_S64x512_S2x32x512 := by
  rw [← out_arr m c]
  exact ((h c).2 main_v9 (by decide)).trans (tail_result m c)

/-- The run, at any float values: the arguments end unchanged, and every semaphore counter at zero. -/
theorem run_main : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => args_of m r h.1 c, h.2⟩) (run_post m ρ)

theorem frame_ideal : Cert.quiescent_KernelIdeal := fun m ρ _ => run_main m ρ
/-- The two programs have one text: their body tables are the same, -/
theorem defs_same : Cert.Kernel.defs (F := Bits) = Cert.KernelIdeal.defs (F := Bits) := by sl_kernel_rfl

/-- so the run above is the printed kernel's run too, at the bit-exact values. -/
theorem frame_kernel : Cert.quiescent_Kernel := fun m ρ _ => by
  rw [defs_same]
  exact (θ_run Cert.KernelIdeal.defs _ _).mono (fun _ h => h) (run_main (F := Bits) m ρ)

end Cert.Moe

end
-- ==== Proof.Arrays.lean ====
/-
  The arrays the kernel's region finds, in terms of the program's arguments: the host's reshapes and the windows'
  whole-array blocks, read at an entry.
-/
module

public import proofs.«01_k».proof.Proof.Frames
public import Idealize.ShloMosaic.Lib.Pointwise
public import Idealize.ShloMosaic.Lib.Pipeline.Value

@[expose] public section

set_option backward.proofsInPublic true

noncomputable section

namespace Cert.Moe

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-! ## The arguments -/

abbrev A0 : S2x32x512.Idx → EReal := m ((c.tc : Thread nD τ).loc main_arg0)
abbrev A1 : S512x2048.Idx → EReal := m ((c.tc : Thread nD τ).loc main_arg1)
abbrev A2 : S2048.Idx → EReal := m ((c.tc : Thread nD τ).loc main_arg2)
abbrev A3 : S2048x2048.Idx → EReal := m ((c.tc : Thread nD τ).loc main_arg3)
abbrev A4 : S2048.Idx → EReal := m ((c.tc : Thread nD τ).loc main_arg4)
abbrev A5 : S2048x64.Idx → EReal := m ((c.tc : Thread nD τ).loc main_arg5)
abbrev A6 : S64.Idx → EReal := m ((c.tc : Thread nD τ).loc main_arg6)
abbrev A7 : S64x2048x512.Idx → EReal := m ((c.tc : Thread nD τ).loc main_arg7)
abbrev A8 : S64x2048x512.Idx → EReal := m ((c.tc : Thread nD τ).loc main_arg8)
abbrev A9 : S64x2048x1.Idx → EReal := m ((c.tc : Thread nD τ).loc main_arg9)
abbrev A10 : S64x512x1.Idx → EReal := m ((c.tc : Thread nD τ).loc main_arg10)

/-! ## The reshapes -/

theorem arr0 : (V (F := Ideal) m c main_v0 : S64x512.Idx → EReal) = shapeCast S64x512 (A0 m c) shapeCasts_S2x32x512_S64x512 := by
  show StableHlo.after hostOps0 _ _ = _
  after_results
  rfl

theorem arr1 : (V (F := Ideal) m c main_v1 : S64x1x2048.Idx → EReal) = shapeCast S64x1x2048 (A9 m c) shapeCasts_S64x2048x1_S64x1x2048 := by
  show StableHlo.after hostOps0 _ _ = _
  after_results
  rfl

theorem arr2 : (V (F := Ideal) m c main_v2 : S64x1x512.Idx → EReal) = shapeCast S64x1x512 (A10 m c) shapeCasts_S64x512x1_S64x1x512 := by
  show StableHlo.after hostOps0 _ _ = _
  after_results
  rfl

theorem arr3 : (V (F := Ideal) m c main_v3 : S64x2x1024x512.Idx → EReal) = shapeCast S64x2x1024x512 (A7 m c) shapeCasts_S64x2048x512_S64x2x1024x512 := by
  show StableHlo.after hostOps0 _ _ = _
  after_results
  rfl

theorem arr4 : (V (F := Ideal) m c main_v4 : S64x2x1024x512.Idx → EReal) = shapeCast S64x2x1024x512 (A8 m c) shapeCasts_S64x2048x512_S64x2x1024x512 := by
  show StableHlo.after hostOps0 _ _ = _
  after_results
  rfl

theorem arr5 : (V (F := Ideal) m c main_v5 : S1x2048.Idx → EReal) = shapeCast S1x2048 (A2 m c) shapeCasts_S2048_S1x2048 := by
  show StableHlo.after hostOps0 _ _ = _
  after_results
  rfl

theorem arr6 : (V (F := Ideal) m c main_v6 : S1x2048.Idx → EReal) = shapeCast S1x2048 (A4 m c) shapeCasts_S2048_S1x2048 := by
  show StableHlo.after hostOps0 _ _ = _
  after_results
  rfl

theorem arr7 : (V (F := Ideal) m c main_v7 : S1x64.Idx → EReal) = shapeCast S1x64 (A6 m c) shapeCasts_S64_S1x64 := by
  show StableHlo.after hostOps0 _ _ = _
  after_results
  rfl

/-! ## The blocks -/

theorem blk0_at (a : Fin 64) (b : Fin 512) : (iblk (F := Ideal) m c 0 t0_0 : S64x512.Idx → EReal) (ix2 a b) = (V (F := Ideal) m c main_v0 : S64x512.Idx → EReal) (ix2 a b) := by
  refine congrArg (V (F := Ideal) m c main_v0 : S64x512.Idx → EReal) (funext fun x => Fin.ext ?_)
  fin_cases x
  · show 0 * 64 + 1 * a.val = a.val; omega
  · show 0 * 512 + 1 * b.val = b.val; omega

theorem blk1_at (a : Fin 512) (b : Fin 2048) : (iblk (F := Ideal) m c 1 t0_0 : S512x2048.Idx → EReal) (ix2 a b) = (V (F := Ideal) m c main_arg1 : S512x2048.Idx → EReal) (ix2 a b) := by
  refine congrArg (V (F := Ideal) m c main_arg1 : S512x2048.Idx → EReal) (funext fun x => Fin.ext ?_)
  fin_cases x
  · show 0 * 512 + 1 * a.val = a.val; omega
  · show 0 * 2048 + 1 * b.val = b.val; omega

theorem blk2_at (a : Fin 1) (b : Fin 2048) : (iblk (F := Ideal) m c 2 t0_0 : S1x2048.Idx → EReal) (ix2 a b) = (V (F := Ideal) m c main_v5 : S1x2048.Idx → EReal) (ix2 a b) := by
  refine congrArg (V (F := Ideal) m c main_v5 : S1x2048.Idx → EReal) (funext fun x => Fin.ext ?_)
  fin_cases x
  · show 0 * 1 + 1 * a.val = a.val; omega
  · show 0 * 2048 + 1 * b.val = b.val; omega

theorem blk3_at (a : Fin 2048) (b : Fin 2048) : (iblk (F := Ideal) m c 3 t0_0 : S2048x2048.Idx → EReal) (ix2 a b) = (V (F := Ideal) m c main_arg3 : S2048x2048.Idx → EReal) (ix2 a b) := by
  refine congrArg (V (F := Ideal) m c main_arg3 : S2048x2048.Idx → EReal) (funext fun x => Fin.ext ?_)
  fin_cases x
  · show 0 * 2048 + 1 * a.val = a.val; omega
  · show 0 * 2048 + 1 * b.val = b.val; omega

theorem blk4_at (a : Fin 1) (b : Fin 2048) : (iblk (F := Ideal) m c 4 t0_0 : S1x2048.Idx → EReal) (ix2 a b) = (V (F := Ideal) m c main_v6 : S1x2048.Idx → EReal) (ix2 a b) := by
  refine congrArg (V (F := Ideal) m c main_v6 : S1x2048.Idx → EReal) (funext fun x => Fin.ext ?_)
  fin_cases x
  · show 0 * 1 + 1 * a.val = a.val; omega
  · show 0 * 2048 + 1 * b.val = b.val; omega

theorem blk5_at (a : Fin 2048) (b : Fin 64) : (iblk (F := Ideal) m c 5 t0_0 : S2048x64.Idx → EReal) (ix2 a b) = (V (F := Ideal) m c main_arg5 : S2048x64.Idx → EReal) (ix2 a b) := by
  refine congrArg (V (F := Ideal) m c main_arg5 : S2048x64.Idx → EReal) (funext fun x => Fin.ext ?_)
  fin_cases x
  · show 0 * 2048 + 1 * a.val = a.val; omega
  · show 0 * 64 + 1 * b.val = b.val; omega

theorem blk6_at (a : Fin 1) (b : Fin 64) : (iblk (F := Ideal) m c 6 t0_0 : S1x64.Idx → EReal) (ix2 a b) = (V (F := Ideal) m c main_v7 : S1x64.Idx → EReal) (ix2 a b) := by
  refine congrArg (V (F := Ideal) m c main_v7 : S1x64.Idx → EReal) (funext fun x => Fin.ext ?_)
  fin_cases x
  · show 0 * 1 + 1 * a.val = a.val; omega
  · show 0 * 64 + 1 * b.val = b.val; omega

theorem blk7_at (a : Fin 64) (b : Fin 1) (k : Fin 2048) : (iblk (F := Ideal) m c 7 t0_0 : S64x1x2048.Idx → EReal) (ix3 a b k) = (V (F := Ideal) m c main_v1 : S64x1x2048.Idx → EReal) (ix3 a b k) := by
  refine congrArg (V (F := Ideal) m c main_v1 : S64x1x2048.Idx → EReal) (funext fun x => Fin.ext ?_)
  fin_cases x
  · show 0 * 64 + 1 * a.val = a.val; omega
  · show 0 * 1 + 1 * b.val = b.val; omega
  · show 0 * 2048 + 1 * k.val = k.val; omega

theorem blk8_at (a : Fin 64) (b : Fin 1) (k : Fin 512) : (iblk (F := Ideal) m c 8 t0_0 : S64x1x512.Idx → EReal) (ix3 a b k) = (V (F := Ideal) m c main_v2 : S64x1x512.Idx → EReal) (ix3 a b k) := by
  refine congrArg (V (F := Ideal) m c main_v2 : S64x1x512.Idx → EReal) (funext fun x => Fin.ext ?_)
  fin_cases x
  · show 0 * 64 + 1 * a.val = a.val; omega
  · show 0 * 1 + 1 * b.val = b.val; omega
  · show 0 * 512 + 1 * k.val = k.val; omega

/-! ## Each array at an entry -/

theorem x_at (b : Fin 2) (s : Fin 32) (k : Fin 512) :
    (iblk (F := Ideal) m c 0 t0_0 : S64x512.Idx → EReal) (ix2 ⟨32 * b.val + s.val, by omega⟩ k) = A0 m c (ix3 b s k) := by
  rw [blk0_at, arr0]
  refine shapeCast_apply (A0 m c) shapeCasts_S2x32x512_S64x512 _ (ix3 b s k) ?_
  rewrite [Shape.rowMajor_val_three, Shape.rowMajor_val_two]
  show (b.val * 32 + s.val) * 512 + k.val = (32 * b.val + s.val) * 512 + k.val
  omega

theorem w1_at (k : Fin 512) (p : Fin 2048) : (iblk (F := Ideal) m c 1 t0_0 : S512x2048.Idx → EReal) (ix2 k p) = A1 m c (ix2 k p) := by
  rw [blk1_at, V_main_arg1]
theorem w2_at (p n : Fin 2048) : (iblk (F := Ideal) m c 3 t0_0 : S2048x2048.Idx → EReal) (ix2 p n) = A3 m c (ix2 p n) := by
  rw [blk3_at, V_main_arg3]
theorem w3_at (n : Fin 2048) (e : Fin 64) : (iblk (F := Ideal) m c 5 t0_0 : S2048x64.Idx → EReal) (ix2 n e) = A5 m c (ix2 n e) := by
  rw [blk5_at, V_main_arg5]

theorem b1_at (p : Fin 2048) : (iblk (F := Ideal) m c 2 t0_0 : S1x2048.Idx → EReal) (ix2 0 p) = A2 m c (ix1 p) := by
  rw [blk2_at, arr5]
  refine shapeCast_apply (A2 m c) shapeCasts_S2048_S1x2048 _ (ix1 p) ?_
  rewrite [Shape.rowMajor_val_one, Shape.rowMajor_val_two]
  show p.val = 0 * 2048 + p.val
  omega

theorem b2_at (p : Fin 2048) : (iblk (F := Ideal) m c 4 t0_0 : S1x2048.Idx → EReal) (ix2 0 p) = A4 m c (ix1 p) := by
  rw [blk4_at, arr6]
  refine shapeCast_apply (A4 m c) shapeCasts_S2048_S1x2048 _ (ix1 p) ?_
  rewrite [Shape.rowMajor_val_one, Shape.rowMajor_val_two]
  show p.val = 0 * 2048 + p.val
  omega

theorem b3_at (p : Fin 64) : (iblk (F := Ideal) m c 6 t0_0 : S1x64.Idx → EReal) (ix2 0 p) = A6 m c (ix1 p) := by
  rw [blk6_at, arr7]
  refine shapeCast_apply (A6 m c) shapeCasts_S64_S1x64 _ (ix1 p) ?_
  rewrite [Shape.rowMajor_val_one, Shape.rowMajor_val_two]
  show p.val = 0 * 64 + p.val
  omega

theorem eb1_at (e : Fin 64) (h : Fin 2048) : (iblk (F := Ideal) m c 7 t0_0 : S64x1x2048.Idx → EReal) (ix3 e 0 h) = A9 m c (ix3 e h 0) := by
  rw [blk7_at, arr1]
  refine shapeCast_apply (A9 m c) shapeCasts_S64x2048x1_S64x1x2048 _ (ix3 e h 0) ?_
  rewrite [Shape.rowMajor_val_three, Shape.rowMajor_val_three]
  show (e.val * 2048 + h.val) * 1 + 0 = (e.val * 1 + 0) * 2048 + h.val
  omega

theorem eb2_at (e : Fin 64) (h : Fin 512) : (iblk (F := Ideal) m c 8 t0_0 : S64x1x512.Idx → EReal) (ix3 e 0 h) = A10 m c (ix3 e h 0) := by
  rw [blk8_at, arr2]
  refine shapeCast_apply (A10 m c) shapeCasts_S64x512x1_S64x1x512 _ (ix3 e h 0) ?_
  rewrite [Shape.rowMajor_val_three, Shape.rowMajor_val_three]
  show (e.val * 512 + h.val) * 1 + 0 = (e.val * 1 + 0) * 512 + h.val
  omega

theorem up0_at (e : Fin 64) (h : Fin 1024) (k : Fin 512) :
    (V (F := Ideal) m c main_v3 : S64x2x1024x512.Idx → EReal) (ix4 e 0 h k) = A7 m c (ix3 e ⟨h.val, by omega⟩ k) := by
  rw [arr3]
  refine shapeCast_apply (A7 m c) shapeCasts_S64x2048x512_S64x2x1024x512 _ (ix3 e ⟨h.val, by omega⟩ k) ?_
  rewrite [Shape.rowMajor_val_three, Shape.rowMajor_val_four]
  show (e.val * 2048 + (h.val)) * 512 + k.val = ((e.val * 2 + 0) * 1024 + h.val) * 512 + k.val
  omega

theorem up1_at (e : Fin 64) (h : Fin 1024) (k : Fin 512) :
    (V (F := Ideal) m c main_v3 : S64x2x1024x512.Idx → EReal) (ix4 e 1 h k) = A7 m c (ix3 e ⟨1024 + h.val, by omega⟩ k) := by
  rw [arr3]
  refine shapeCast_apply (A7 m c) shapeCasts_S64x2048x512_S64x2x1024x512 _ (ix3 e ⟨1024 + h.val, by omega⟩ k) ?_
  rewrite [Shape.rowMajor_val_three, Shape.rowMajor_val_four]
  show (e.val * 2048 + (1024 + h.val)) * 512 + k.val = ((e.val * 2 + 1) * 1024 + h.val) * 512 + k.val
  omega

theorem down0_at (e : Fin 64) (h : Fin 1024) (k : Fin 512) :
    (V (F := Ideal) m c main_v4 : S64x2x1024x512.Idx → EReal) (ix4 e 0 h k) = A8 m c (ix3 e ⟨h.val, by omega⟩ k) := by
  rw [arr4]
  refine shapeCast_apply (A8 m c) shapeCasts_S64x2048x512_S64x2x1024x512 _ (ix3 e ⟨h.val, by omega⟩ k) ?_
  rewrite [Shape.rowMajor_val_three, Shape.rowMajor_val_four]
  show (e.val * 2048 + (h.val)) * 512 + k.val = ((e.val * 2 + 0) * 1024 + h.val) * 512 + k.val
  omega

theorem down1_at (e : Fin 64) (h : Fin 1024) (k : Fin 512) :
    (V (F := Ideal) m c main_v4 : S64x2x1024x512.Idx → EReal) (ix4 e 1 h k) = A8 m c (ix3 e ⟨1024 + h.val, by omega⟩ k) := by
  rw [arr4]
  refine shapeCast_apply (A8 m c) shapeCasts_S64x2048x512_S64x2x1024x512 _ (ix3 e ⟨1024 + h.val, by omega⟩ k) ?_
  rewrite [Shape.rowMajor_val_three, Shape.rowMajor_val_four]
  show (e.val * 2048 + (1024 + h.val)) * 512 + k.val = ((e.val * 2 + 1) * 1024 + h.val) * 512 + k.val
  omega

/-- The result's reshape. -/
theorem result_at (v : S64x512.Idx → EReal) (b : Fin 2) (s : Fin 32) (d : Fin 512) :
    shapeCast S2x32x512 v shapeCasts_S64x512_S2x32x512 (ix3 b s d) = v (ix2 ⟨32 * b.val + s.val, by omega⟩ d) := by
  refine shapeCast_apply v shapeCasts_S64x512_S2x32x512 _ (ix2 ⟨32 * b.val + s.val, by omega⟩ d) ?_
  rewrite [Shape.rowMajor_val_three, Shape.rowMajor_val_two]
  show (32 * b.val + s.val) * 512 + d.val = (b.val * 32 + s.val) * 512 + d.val
  omega

end Cert.Moe

end
-- ==== Proof.TopTwo.lean ====
/-
  The two best entries of a row of extended reals: how a stable decreasing sort, and how two rounds of taking the
  maximum and the first position that holds it, find them.
-/
module

public import Idealize.ShloMosaic.Lib.SortFacts
public import Idealize.ShloMosaic.Lib.SortPrefix
public import Idealize.ShloMosaic.Lib.SortNet.Extract
public import Idealize.ShloMosaic.PureOps.Ideal

@[expose] public section

noncomputable section

/-! # The two best entries of a row

`Top1 x i` says that `i` is the first position of the largest entry of `x`, and `Top2 x i j` that `j` is the first
position of the largest entry among the others. A stable sort in decreasing order puts these two first, a maximum
taken over the row is the entry at `i`, the smallest position holding it is `i`, and the same over the row with `i`
struck out gives `j`. -/

namespace Cert.Moe

open Idealize.ShloMosaic

variable {n : ℕ}

/-- `i` is the first position of the largest entry. -/
def Top1 (x : Fin n → EReal) (i : Fin n) : Prop := (∀ k, x k ≤ x i) ∧ ∀ k, x k = x i → i ≤ k

/-- `j` is the first position of the largest entry other than the one at `i`. -/
def Top2 (x : Fin n → EReal) (i j : Fin n) : Prop :=
  j ≠ i ∧ (∀ k, k ≠ i → x k ≤ x j) ∧ ∀ k, k ≠ i → x k = x j → j ≤ k

/-- Among the positions of a nonempty set there is a first one holding the set's largest entry. -/
theorem exists_first (x : Fin n → EReal) (S : Finset (Fin n)) (hS : S.Nonempty) :
    ∃ i ∈ S, (∀ k ∈ S, x k ≤ x i) ∧ ∀ k ∈ S, x k = x i → i ≤ k := by
  classical
  obtain ⟨m, hm, hmax⟩ := S.exists_max_image x hS
  obtain ⟨i, hi, hmin⟩ := (S.filter fun k => x k = x m).exists_min_image id ⟨m, by simp [hm]⟩
  obtain ⟨hiS, him⟩ := Finset.mem_filter.mp hi
  exact ⟨i, hiS, fun k hk => him ▸ hmax k hk, fun k hk e => hmin k (Finset.mem_filter.mpr ⟨hk, e.trans him⟩)⟩

/-- A row of at least two entries has its two best. -/
theorem exists_top (x : Fin n → EReal) (hn : 1 < n) : ∃ i j, Top1 x i ∧ Top2 x i j := by
  classical
  obtain ⟨i, -, h1, h2⟩ := exists_first x Finset.univ ⟨⟨0, by omega⟩, Finset.mem_univ _⟩
  have hne : (Finset.univ.erase i).Nonempty := by
    rw [← Finset.card_pos, Finset.card_erase_of_mem (Finset.mem_univ i), Finset.card_univ, Fintype.card_fin]; omega
  obtain ⟨j, hj, h3, h4⟩ := exists_first x (Finset.univ.erase i) hne
  exact ⟨i, j, ⟨fun k => h1 k (Finset.mem_univ k), fun k => h2 k (Finset.mem_univ k)⟩, (Finset.mem_erase.mp hj).1,
    fun k hk => h3 k (Finset.mem_erase.mpr ⟨hk, Finset.mem_univ k⟩),
    fun k hk => h4 k (Finset.mem_erase.mpr ⟨hk, Finset.mem_univ k⟩)⟩

/-- Larger first, and of equal entries the earlier first. -/
def ahead (x : Fin n → EReal) (k k' : Fin n) : Bool :=
  decide (x k' < x k) || (decide (x k = x k') && decide (k < k'))

theorem ahead_total (x : Fin n → EReal) : StrictTotalBefore (ahead x) :=
  StrictTotalBefore.of_key_then_position (fun a b : EReal => decide (b < a)) x (fun a => by simp)
    (fun a b c h h' => by simp only [decide_eq_true_eq] at *; exact h'.trans h)
    (fun a b => by simp only [decide_eq_true_eq]; rcases lt_trichotomy a b with h | h | h <;> simp [h])

/-- Sorting an increasing list of positions by the entries alone leaves equal entries in their order. -/
theorem stableSort_ahead (x : Fin n → EReal) (l : List (Fin n)) (hl : l.Pairwise (· < ·)) :
    stableSort (fun k k' => decide (x k' < x k)) l = stableSort (ahead x) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    have : ¬ b < a := not_lt.mpr hab.le
    simp [ahead, this]

theorem sortedFrom_ahead (x : Fin n → EReal) :
    sortedFrom (fun k k' => decide (x k' < x k)) = sortedFrom (ahead x) := by
  funext k
  unfold sortedFrom
  rw [List.get_of_eq (show sortPositions n _ = sortPositions n _ from
    stableSort_ahead x (List.finRange n) (List.pairwise_lt_finRange n))]
  rfl

/-- Nothing is ahead of the best entry. -/
theorem Top1.not_ahead {x : Fin n → EReal} {i : Fin n} (h : Top1 x i) (p : Fin n) : ahead x p i = false := by
  unfold ahead
  simp only [Bool.or_eq_false_iff, Bool.and_eq_false_iff, decide_eq_false_iff_not, not_lt]
  refine ⟨h.1 p, ?_⟩
  by_cases e : x p = x i
  · exact Or.inr (h.2 p e)
  · exact Or.inl e

/-- Nothing but the best entry is ahead of the second. -/
theorem Top2.not_ahead {x : Fin n → EReal} {i j : Fin n} (h : Top2 x i j) (p : Fin n) (hp : p ≠ i) :
    ahead x p j = false := by
  unfold ahead
  simp only [Bool.or_eq_false_iff, Bool.and_eq_false_iff, decide_eq_false_iff_not, not_lt]
  refine ⟨h.2.1 p hp, ?_⟩
  by_cases e : x p = x j
  · exact Or.inr (h.2.2 p hp e)
  · exact Or.inl e

/-- The decreasing stable sort of a row starts with its two best entries. -/
theorem sortedFrom_top {x : Fin n → EReal} {i j : Fin n} (hi : Top1 x i) (hj : Top2 x i j) (hn : 2 ≤ n) (q : Fin 2) :
    sortedFrom (fun k k' => decide (x k' < x k)) (q.castLE hn) = ![i, j] q := by
  rw [sortedFrom_ahead]
  refine (ahead_total x).sortedFrom_eq_of_prefix hn ![i, j] ?_ ?_ ?_ q
  · intro a b hab
    have := hj.1
    fin_cases a <;> fin_cases b <;> simp_all
  · intro a b hab
    have : a = 0 ∧ b = 1 := by omega
    obtain ⟨rfl, rfl⟩ := this
    exact hi.not_ahead j
  · intro a p hp
    fin_cases a
    · exact hi.not_ahead p
    · exact hj.not_ahead p (fun e => hp 0 e.symm)

/-- The maximum over a row, from minus infinity, is its best entry. -/
theorem fold_max_top {x : Fin n → EReal} {i : Fin n} (h : Top1 x i) :
    (Finset.univ : Finset (Fin n)).fold max ⊥ x = x i :=
  le_antisymm ((Finset.fold_max_le _).mpr ⟨bot_le, fun k _ => h.1 k⟩)
    ((Finset.le_fold_max _).mpr (Or.inr ⟨i, Finset.mem_univ i, le_rfl⟩))

/-- The least position of those that satisfy a property, found as the signed minimum of the position where it holds
    and of 64 elsewhere. -/
theorem fold_minsi_first (p : Fin 64 → Prop) [DecidablePred p] {i : Fin 64} (hp : p i) (hi : ∀ k, p k → i ≤ k) :
    (Finset.univ : Finset (Fin 64)).fold IntOp.minsi 2147483647#32 (fun k => if p k then BitVec.ofNat 32 k.val else 64#32)
      = BitVec.ofNat 32 i.val := by
  have hint : ∀ k : Fin 64, (BitVec.ofNat 32 k.val).toInt = k.val := by decide
  apply BitVec.eq_of_toInt_eq
  rw [← Finset.fold_hom (op' := min) SortNet.toInt_minsi, hint]
  refine le_antisymm ((Finset.fold_min_le _).mpr (Or.inr ⟨i, Finset.mem_univ i, ?_⟩))
    ((Finset.le_fold_min _).mpr ⟨?_, fun k _ => ?_⟩)
  · simp only [if_pos hp, hint, le_refl]
  · have : (2147483647#32).toInt = 2147483647 := by decide
    rw [this]; have := i.isLt; omega
  · by_cases h : p k
    · simp only [if_pos h, hint]
      have := hi k h
      exact_mod_cast this
    · simp only [if_neg h]
      have : (64#32).toInt = 64 := by decide
      rw [this]; have := i.isLt; omega

/-- With the best entry struck out the second is the best. -/
theorem Top2.struck {x : Fin n → EReal} {i j : Fin n} (h : Top2 x i j) (hx : ∀ k, x k ≠ ⊥) :
    Top1 (fun k => if k = i then ⊥ else x k) j := by
  refine ⟨fun k => ?_, fun k hk => ?_⟩
  · simp only [if_neg h.1]
    by_cases e : k = i
    · simp [e]
    · simpa [e] using h.2.1 k e
  · simp only [if_neg h.1] at hk
    by_cases e : k = i
    · simp only [if_pos e] at hk; exact absurd hk.symm (hx j)
    · simp only [if_neg e] at hk; exact h.2.2 k e hk

end Cert.Moe

end
-- ==== Proof.Model.lean ====
/-
  What the layer computes for one token, written over the extended reals: dense layers with the exact GELU, the scores of
  the 64 experts, one expert's answer, and the mixture of the two best experts.
-/
module

public import Idealize.ShloMosaic.PureOps.Ideal

@[expose] public section

set_option backward.proofsInPublic true

noncomputable section

namespace Cert.Moe

open Idealize.ShloMosaic
open scoped BigOperators

/-- The word of one. -/
theorem word_one : Ideal.ofBits .f32 0x3F800000#32 = 1 := by simp [Ideal.ofBits, Ideal.ieee, -EReal.coe_mul]; norm_num

/-- The GELU, `t/2 * (1 + erf (t * c))`, with the words of one half and of the root of one half. -/
def gelu (t : EReal) : EReal :=
  Ideal.ofBits .f32 0x3F000000#32 * t * (1 + Ideal.erf (t * Ideal.ofBits .f32 0x3F3504F3#32))

/-- A dense layer's value at one unit. -/
def lin {K : ℕ} (x w : Fin K → EReal) (b : EReal) : EReal := ∑ k, x k * w k + b

/-- The score the gate network gives expert `e` for the token `x`. -/
def score (w1 : Fin 512 → Fin 2048 → EReal) (b1 : Fin 2048 → EReal) (w2 : Fin 2048 → Fin 2048 → EReal)
    (b2 : Fin 2048 → EReal) (w3 : Fin 2048 → Fin 64 → EReal) (b3 : Fin 64 → EReal) (x : Fin 512 → EReal)
    (e : Fin 64) : EReal :=
  Ideal.logistic (lin (fun n => gelu (lin (fun p => gelu (lin x (fun k => w1 k p) (b1 p))) (fun p => w2 p n) (b2 n)))
    (fun n => w3 n e) (b3 e))

/-- One expert's answer at feature `d`: up through 2048 hidden units, and down again. -/
def answer (u : Fin 2048 → Fin 512 → EReal) (c : Fin 2048 → EReal) (v : Fin 2048 → Fin 512 → EReal)
    (b : Fin 512 → EReal) (x : Fin 512 → EReal) (d : Fin 512) : EReal :=
  gelu (lin (fun h => gelu (lin x (u h) (c h))) (fun h => v h d) (b d))

/-- The two best experts' answers, weighted by their shares of the two scores. -/
def mix (s O : Fin 64 → EReal) (i j : Fin 64) : EReal :=
  Ideal.div (s i) (s i + s j) * O i + Ideal.div (s j) (s i + s j) * O j

/-- A sum over all experts in which each weighs its share if it is one of the two best, and nothing otherwise. -/
theorem sum_mix (O : Fin 64 → EReal) {i j : Fin 64} (hij : j ≠ i) (a b : EReal) :
    ∑ e, ((if i = e then a else 0) + (if j = e then b else 0)) * O e = a * O i + b * O j := by
  have h : ∀ e, ((if i = e then a else 0) + (if j = e then b else 0)) * O e
      = (if i = e then a * O e else 0) + (if j = e then b * O e else 0) := fun e => by
    by_cases h1 : i = e
    · have h2 : ¬ j = e := fun h => hij (h.trans h1.symm)
      simp [h1, h2]
    · by_cases h2 : j = e <;> simp [h1, h2]
  rw [Finset.sum_congr rfl fun e _ => h e, Finset.sum_add_distrib, Finset.sum_ite_eq, Finset.sum_ite_eq]
  simp

/-- A sum over 2048 units in two halves. -/
theorem sum_halves (f : Fin 2048 → EReal) :
    ∑ h, f h = ∑ h : Fin 1024, f ⟨h.val, by omega⟩ + ∑ h : Fin 1024, f ⟨1024 + h.val, by omega⟩ := by
  exact Fin.sum_univ_add (a := 1024) (b := 1024) f

end Cert.Moe

end
-- ==== Proof.Gates.lean ====
/-
  The kernel's gate values read at a token: the sigmoid scores, the two best experts and their shares.
-/
module

public import proofs.«01_k».proof.Proof.Gen.KernelIdeal
public import proofs.«01_k».proof.Proof.Gen.KernelIdeal.Skeleton
public import proofs.«01_k».proof.Proof.TopTwo
public import proofs.«01_k».proof.Proof.Model
public import Idealize.ShloMosaic.Lib.Pointwise
public import Idealize.ShloMosaic.Lib.ValueIdx
public import Idealize.ShloMosaic.Lib.MatmulPlain

@[expose] public section

noncomputable section

namespace Cert.Moe

open Cert.KernelIdeal Cert.KernelIdeal.Gen
open Idealize.ShloMosaic

/-- The word of minus infinity. -/
theorem word_bot : Ideal.ofBits .f32 0xFF800000#32 = ⊥ := by simp [Ideal.ofBits, Ideal.ieee]

/-- A logistic value is never minus infinity. -/
theorem logistic_ne_bot (x : EReal) : Ideal.logistic x ≠ ⊥ := by
  induction x with
  | bot => rw [Ideal.logistic_bot]; exact EReal.zero_ne_bot
  | coe r => rw [Ideal.logistic_coe]; exact EReal.coe_ne_bot _
  | top => rw [Ideal.logistic_top]; exact EReal.coe_ne_bot 1

/-- An expert's number as a word determines it. -/
theorem word_inj (a b : Fin 64) : BitVec.ofNat 32 a.val = BitVec.ofNat 32 b.val ↔ a = b := by
  refine ⟨fun h => ?_, fun h => h ▸ rfl⟩
  have := congrArg BitVec.toNat h
  simp only [BitVec.toNat_ofNat] at this
  have := a.isLt; have := b.isLt
  exact Fin.ext (by omega)

variable (v33 : FVec Ideal S64x64 .f32) (v36 : FVec Ideal S1x64 .f32)

/-- The scores are the logistic of the logits. -/
theorem pay8_at (t e : Fin 64) :
    k0_pay8 v33 v36 (ix2 t e) = Ideal.logistic (v33 (ix2 t e) + v36 (ix2 0 e)) := by
  unfold k0_pay8
  pointwise

theorem pay9_at (t : Fin 64) :
    k0_pay9 v33 v36 (ix2 t 0) = (Finset.univ : Finset (Fin 64)).fold max ⊥ fun e => k0_pay8 v33 v36 (ix2 t e) := by
  unfold k0_pay9
  pointwise
  rw [word_bot]

theorem pay10_at (t : Fin 64) :
    k0_pay10 v33 v36 (ix2 t 0) = (Finset.univ : Finset (Fin 64)).fold IntOp.minsi 2147483647#32 fun e =>
      if k0_pay8 v33 v36 (ix2 t e) = k0_pay9 v33 v36 (ix2 t 0) then BitVec.ofNat 32 e.val else 64#32 := by
  unfold k0_pay10
  pointwise

theorem pay11_at (t e : Fin 64) :
    k0_pay11 v33 v36 (ix2 t e)
      = if BitVec.ofNat 32 e.val = k0_pay10 v33 v36 (ix2 t 0) then ⊥ else k0_pay8 v33 v36 (ix2 t e) := by
  unfold k0_pay11
  pointwise
  rw [word_bot]
  simp only [Scalar.select, IntOp.cmpi]
  refine if_congr ?_ rfl rfl
  generalize BitVec.ofNat 32 e.val = a, k0_pay10 v33 v36 (ix2 t 0) = b
  by_cases h : a = b
  · simp [h]
  · simp only [h, iff_false, beq_eq_false_iff_ne.mpr h]; decide

theorem pay12_at (t : Fin 64) :
    k0_pay12 v33 v36 (ix2 t 0) = (Finset.univ : Finset (Fin 64)).fold max ⊥ fun e => k0_pay11 v33 v36 (ix2 t e) := by
  unfold k0_pay12
  pointwise
  rw [word_bot]

theorem pay13_at (t : Fin 64) :
    k0_pay13 v33 v36 (ix2 t 0) = (Finset.univ : Finset (Fin 64)).fold IntOp.minsi 2147483647#32 fun e =>
      if k0_pay11 v33 v36 (ix2 t e) = k0_pay12 v33 v36 (ix2 t 0) then BitVec.ofNat 32 e.val else 64#32 := by
  unfold k0_pay13
  pointwise

section Top

variable {v33 v36} {t i j : Fin 64} (hi : Top1 (fun e => k0_pay8 v33 v36 (ix2 t e)) i)
  (hj : Top2 (fun e => k0_pay8 v33 v36 (ix2 t e)) i j)

include hi

/-- The first maximum is the best score, … -/
theorem pay9_top : k0_pay9 v33 v36 (ix2 t 0) = k0_pay8 v33 v36 (ix2 t i) := by
  rw [pay9_at, fold_max_top hi]

/-- … the first index found the best expert, … -/
theorem pay10_top : k0_pay10 v33 v36 (ix2 t 0) = BitVec.ofNat 32 i.val := by
  rw [pay10_at, pay9_top hi]
  exact fold_minsi_first (fun e => k0_pay8 v33 v36 (ix2 t e) = k0_pay8 v33 v36 (ix2 t i)) rfl hi.2

/-- … and its score is struck out for the second round. -/
theorem pay11_top : (fun e => k0_pay11 v33 v36 (ix2 t e)) = fun e => if e = i then ⊥ else k0_pay8 v33 v36 (ix2 t e) := by
  funext e
  rw [pay11_at, pay10_top hi]
  simp only [word_inj]

include hj

theorem struck_top : Top1 (fun e => k0_pay11 v33 v36 (ix2 t e)) j := by
  rw [pay11_top hi]
  exact hj.struck fun e => by rw [pay8_at]; exact logistic_ne_bot _

/-- The second maximum is the second score, … -/
theorem pay12_top : k0_pay12 v33 v36 (ix2 t 0) = k0_pay8 v33 v36 (ix2 t j) := by
  rw [pay12_at, fold_max_top (struck_top hi hj), congrFun (pay11_top hi) j, if_neg hj.1]

/-- … the second index found the second expert, … -/
theorem pay13_top : k0_pay13 v33 v36 (ix2 t 0) = BitVec.ofNat 32 j.val := by
  have h := struck_top hi hj
  rw [pay13_at, show k0_pay12 v33 v36 (ix2 t 0) = k0_pay11 v33 v36 (ix2 t j) by rw [pay12_at, fold_max_top h]]
  exact fold_minsi_first (fun e => k0_pay11 v33 v36 (ix2 t e) = k0_pay11 v33 v36 (ix2 t j)) rfl h.2

/-- … and the two shares are the two scores over their sum. -/
theorem pay15_top : k0_pay15 v33 v36 (ix2 t 0)
    = Ideal.div (k0_pay8 v33 v36 (ix2 t i)) (k0_pay8 v33 v36 (ix2 t i) + k0_pay8 v33 v36 (ix2 t j)) := by
  unfold k0_pay15 k0_pay14
  pointwise
  rw [pay9_top hi, pay12_top hi hj]

theorem pay16_top : k0_pay16 v33 v36 (ix2 t 0)
    = Ideal.div (k0_pay8 v33 v36 (ix2 t j)) (k0_pay8 v33 v36 (ix2 t i) + k0_pay8 v33 v36 (ix2 t j)) := by
  unfold k0_pay16 k0_pay14
  pointwise
  rw [pay9_top hi, pay12_top hi hj]

end Top

end Cert.Moe

end
-- ==== Proof.Expert.lean ====
/-
  The kernel's arithmetic read at an entry: the gate network's logits, and what one expert adds to the running result.
-/
module

public import proofs.«01_k».proof.Proof.Gates
public import proofs.«01_k».proof.Proof.Model

@[expose] public section

set_option backward.proofsInPublic true

noncomputable section

namespace Cert.Moe

open Cert.KernelIdeal Cert.KernelIdeal.Gen
open Idealize.ShloMosaic

/-- The tokens as the body holds them. -/
theorem pay5_at (v0 : Vec Ideal S64x512 .f32) (t : Fin 64) (k : Fin 512) : k0_pay5 (F := Ideal) v0 (ix2 t k) = v0 (ix2 t k) := by
  unfold k0_pay5
  pointwise

/-- The logits, before the last layer's bias. -/
theorem pay6_at (v0 : Vec Ideal S64x512 .f32) (v2 : Vec Ideal S512x2048 .f32) (v4 : Vec Ideal S1x2048 .f32)
    (v17 : Vec Ideal S2048x2048 .f32) (v19 : Vec Ideal S1x2048 .f32) (v32 : Vec Ideal S2048x64 .f32) (t e : Fin 64) :
    k0_pay6 (F := Ideal) v0 v2 v4 v17 v19 v32 (ix2 t e) = ∑ n : Fin 2048,
      gelu (lin (fun p : Fin 2048 => gelu (lin (fun k : Fin 512 => v0 (ix2 t k)) (fun k => v2 (ix2 k p)) (v4 (ix2 0 p))))
        (fun p => v17 (ix2 p n)) (v19 (ix2 0 n))) * v32 (ix2 n e) := by
  unfold k0_pay6 k0_pay5 gelu lin
  pointwise
  rfl

/-- The last layer's bias. -/
theorem pay7_at (v34 : Vec Ideal S1x64 .f32) (e : Fin 64) : k0_pay7 (F := Ideal) v34 (ix2 0 e) = v34 (ix2 0 e) := by
  unfold k0_pay7
  pointwise

/-- The hidden units of the second half. -/
theorem pay2_at (v1 : FVec Ideal S64x512 .f32) (w : FVec Ideal S1x2048 .f32) (u : Vec Ideal S1x1x1024x512 .f32)
    (t : Fin 64) (h : Fin 1024) :
    k0_pay2 v1 w u (ix2 t h) = gelu (lin (fun k : Fin 512 => v1 (ix2 t k)) (fun k => u (ix4 0 0 h k))
      (w (ix2 0 ⟨1024 + h.val, by omega⟩))) := by
  unfold k0_pay2 gelu lin
  pointwise
  rfl

/-- The hidden units of the first half, brought down. -/
theorem pay3_at (v1 : FVec Ideal S64x512 .f32) (w : FVec Ideal S1x2048 .f32) (u v : Vec Ideal S1x1x1024x512 .f32)
    (t : Fin 64) (d : Fin 512) :
    k0_pay3 v1 w u v (ix2 t d) = ∑ h : Fin 1024, gelu (lin (fun k : Fin 512 => v1 (ix2 t k)) (fun k => u (ix4 0 0 h k))
      (w (ix2 0 ⟨h.val, by omega⟩))) * v (ix4 0 0 h d) := by
  unfold k0_pay3 gelu lin
  pointwise
  rfl

theorem pay1_at (v : Vec Ideal S1x1x2048 .f32) (h : Fin 2048) : k0_pay1 (F := Ideal) v (ix2 0 h) = v (ix3 0 0 h) := by
  unfold k0_pay1
  pointwise

/-- A word comparison that keeps a number. -/
theorem pick (a b : BitVec 32) (x : EReal) : Scalar.select (IntOp.cmpi .eq a b) x 0 = if a = b then x else 0 := by
  by_cases h : a = b <;> simp [Scalar.select, IntOp.cmpi, h, BEq.beq]

/-- What one expert adds: its answer times the token's share of it. -/
theorem pay4_at (v48 v60 : IVec S64x1 32) (v62 v63 : FVec Ideal S64x1 .f32) (e : BitVec 32) (z : FVec Ideal S64x1024 .f32)
    (y : FVec Ideal S64x512 .f32) (v : Vec Ideal S1x1x1024x512 .f32) (b : Vec Ideal S1x1x512 .f32)
    (r : Vec Ideal S64x512 .f32) (t : Fin 64) (d : Fin 512) :
    k0_pay4 v48 v60 v62 v63 e z y v b r (ix2 t d) = r (ix2 t d)
      + ((if v48 (ix2 t 0) = e then v62 (ix2 t 0) else 0) + (if v60 (ix2 t 0) = e then v63 (ix2 t 0) else 0))
        * gelu (y (ix2 t d) + ∑ h : Fin 1024, z (ix2 t h) * v (ix4 0 0 h d) + b (ix3 0 0 d)) := by
  unfold k0_pay4 gelu
  pointwise
  rw [pick, pick]
  rfl

theorem pay17_at (t : Fin 64) (d : Fin 512) : k0_pay17 (F := Ideal) (ix2 t d) = 0 := by
  unfold k0_pay17
  pointwise

end Cert.Moe

end
-- ==== Proof.Reads.lean ====
/-
  What the body's loads read: a block of an expert's weights out of the array it was copied from, and its biases out
  of their staging buffers.
-/
module

public import proofs.«01_k».proof.Proof.Body
public import proofs.«01_k».proof.Proof.Expert

@[expose] public section

set_option backward.proofsInPublic true

noncomputable section

namespace Cert.Moe

open Cert.KernelIdeal Cert.KernelIdeal.Gen
open Idealize.ShloMosaic Idealize.ShloMosaic.TcCoe

/-- A block of the up weights, read at an entry. -/
theorem payload_up (c : Dev nD) (XU : Buf (Elt Ideal) (aU.view.loc (c : Thread nD τ))) (q : Fin 2) (e : Fin 64)
    (h : Fin 1024) (k : Fin 512) :
    payload (F := Ideal) c aU q XU e (ix4 0 0 h k) = (XU : S64x2x1024x512.Idx → EReal) (ix4 e q h k) := by
  refine congrArg (XU : S64x2x1024x512.Idx → EReal) (funext fun a => Fin.ext ?_)
  fin_cases a
  · show e.val + 1 * 0 = e.val; omega
  · show q.val + 1 * 0 = q.val; omega
  · show 0 + 1 * h.val = h.val; omega
  · show 0 + 1 * k.val = k.val; omega

/-- A block of the down weights, read at an entry. -/
theorem payload_down (c : Dev nD) (XD : Buf (Elt Ideal) (aD.view.loc (c : Thread nD τ))) (q : Fin 2) (e : Fin 64)
    (h : Fin 1024) (k : Fin 512) :
    payload (F := Ideal) c aD q XD e (ix4 0 0 h k) = (XD : S64x2x1024x512.Idx → EReal) (ix4 e q h k) := by
  refine congrArg (XD : S64x2x1024x512.Idx → EReal) (funext fun a => Fin.ext ?_)
  fin_cases a
  · show e.val + 1 * 0 = e.val; omega
  · show q.val + 1 * 0 = q.val; omega
  · show 0 + 1 * h.val = h.val; omega
  · show 0 + 1 * k.val = k.val; omega

/-- A slot holding `P` reads `P`. -/
theorem slotRead_eq (B : Memref sig .tc .vmem S3x1x1x1024x512 .f32) (s : Fin 3) (P : S1x1x1024x512.Idx → Elt Ideal .f32) :
    slotRead (F := Ideal) B s P = P :=
  View.readCov_full (Val := Elt Ideal) (slot B s).view _ _ P []

/-- The word of trip `k`'s expert. -/
theorem off39_eq (k : Trip) : k0_off39 (expW k.val) = ![k.val, 0, 0] := by
  revert k; decide +kernel

theorem off44_eq (k : Trip) : k0_off44 (expW k.val) = ![k.val, 0, 0] := by
  revert k; decide +kernel

/-- An expert's first bias. -/
theorem bias7_at (c : Dev nD) (arg7 : Memref sig .tc .vmem S64x1x2048 .f32) (Y : S64x1x2048.Idx → EReal) (k : Trip)
    (e : Fin 64) (he : e.val = k.val) (h : Fin 2048) :
    bias7 (F := Ideal) c arg7 (arg7.view.rep (Val := Elt Ideal) Y) k (ix3 0 0 h) = Y (ix3 e 0 h) := by
  unfold bias7
  rw [View.readAt_rep]
  refine congrArg Y (funext fun a => Fin.ext ?_)
  have ho := off39_eq k
  fin_cases a
  · show k0_off39 (expW k.val) 0 + 1 * 0 = e.val; rw [ho, he]; rfl
  · show k0_off39 (expW k.val) 1 + 1 * 0 = 0; rw [ho]; rfl
  · show k0_off39 (expW k.val) 2 + 1 * h.val = h.val; rw [ho]; show 0 + 1 * h.val = h.val; omega

/-- An expert's second bias. -/
theorem bias8_at (c : Dev nD) (arg8 : Memref sig .tc .vmem S64x1x512 .f32) (Y : S64x1x512.Idx → EReal) (k : Trip)
    (e : Fin 64) (he : e.val = k.val) (d : Fin 512) :
    bias8 (F := Ideal) c arg8 (arg8.view.rep (Val := Elt Ideal) Y) k (ix3 0 0 d) = Y (ix3 e 0 d) := by
  unfold bias8
  rw [View.readAt_rep]
  refine congrArg Y (funext fun a => Fin.ext ?_)
  have ho := off44_eq k
  fin_cases a
  · show k0_off44 (expW k.val) 0 + 1 * 0 = e.val; rw [ho, he]; rfl
  · show k0_off44 (expW k.val) 1 + 1 * 0 = 0; rw [ho]; rfl
  · show k0_off44 (expW k.val) 2 + 1 * d.val = d.val; rw [ho]; show 0 + 1 * d.val = d.val; omega

end Cert.Moe

end
-- ==== Proof.KernelValue.lean ====
/-
  What the kernel's body leaves at an entry of its output: the mixture of the two best experts' answers.
-/
module

public import proofs.«01_k».proof.Proof.Reads

@[expose] public section

set_option backward.proofsInPublic true

noncomputable section

namespace Cert.Moe

open Cert.KernelIdeal Cert.KernelIdeal.Gen
open Idealize.ShloMosaic Idealize.ShloMosaic.TcCoe
open scoped BigOperators

section
variable (c : Dev nD) (XU : Buf (Elt Ideal) (aU.view.loc (c : Thread nD τ))) (XD : Buf (Elt Ideal) (aD.view.loc (c : Thread nD τ)))
  (arg7 : Memref sig .tc .vmem S64x1x2048 .f32) (arg8 : Memref sig .tc .vmem S64x1x512 .f32)
  (Y7 : S64x1x2048.Idx → EReal) (Y8 : S64x1x512.Idx → EReal) (U D : Fin 64 → Fin 2048 → Fin 512 → EReal)
  (hU0 : ∀ e (h : Fin 1024) k, (XU : S64x2x1024x512.Idx → EReal) (ix4 e 0 h k) = U e ⟨h.val, by omega⟩ k)
  (hU1 : ∀ e (h : Fin 1024) k, (XU : S64x2x1024x512.Idx → EReal) (ix4 e 1 h k) = U e ⟨1024 + h.val, by omega⟩ k)
  (hD0 : ∀ e (h : Fin 1024) k, (XD : S64x2x1024x512.Idx → EReal) (ix4 e 0 h k) = D e ⟨h.val, by omega⟩ k)
  (hD1 : ∀ e (h : Fin 1024) k, (XD : S64x2x1024x512.Idx → EReal) (ix4 e 1 h k) = D e ⟨1024 + h.val, by omega⟩ k)
  (v1 : FVec Ideal S64x512 .f32) (v48 v60 : IVec S64x1 32) (v62 v63 : FVec Ideal S64x1 .f32)

/-- Expert `e`'s answer for token `t` at feature `d`, from the arrays the body holds. -/
def reply (t : Fin 64) (d : Fin 512) (e : Fin 64) : EReal :=
  answer (U e) (fun h => Y7 (ix3 e 0 h)) (D e) (fun d => Y8 (ix3 e 0 d)) (fun k => v1 (ix2 t k)) d

/-- What expert `e` adds at an entry. -/
def term (t : Fin 64) (d : Fin 512) (e : Fin 64) : EReal :=
  ((if v48 (ix2 t 0) = BitVec.ofNat 32 e.val then v62 (ix2 t 0) else 0)
    + (if v60 (ix2 t 0) = BitVec.ofNat 32 e.val then v63 (ix2 t 0) else 0)) * reply Y7 Y8 U D v1 t d e

theorem expert_word (e : Fin 64) : Scalar.addi (expW e.val) 0#32 = BitVec.ofNat 32 e.val := by
  revert e; decide

include hU0 hU1 hD0 hD1 in
/-- A trip adds its expert's term. -/
theorem trip_at (k : Trip) (e : Fin 64) (he : e.val = k.val) (r : FVec Ideal S64x512 .f32) (t : Fin 64) (d : Fin 512) :
    tripVal (F := Ideal) c XU XD arg7 arg8 (arg7.view.rep (Val := Elt Ideal) Y7) (arg8.view.rep (Val := Elt Ideal) Y8)
      v1 v48 v60 v62 v63 k r (ix2 t d) = r (ix2 t d) + term Y7 Y8 U D v1 v48 v60 v62 v63 t d e := by
  have hb : Ring.bk 64 k.val = e := Fin.ext (by
    show k.val % 64 = e.val
    have := e.isLt; rw [← he]; omega)
  unfold tripVal term reply answer
  rw [pay4_at, pay3_at, bias8_at c arg8 Y8 k e he, hb, ← he, expert_word]
  have p0 : ∀ h k, payload (F := Ideal) c aU 0 XU e (ix4 0 0 h k) = U e ⟨h.val, by omega⟩ k :=
    fun h k => (payload_up c XU 0 e h k).trans (hU0 e h k)
  have p1 : ∀ h k, payload (F := Ideal) c aU 1 XU e (ix4 0 0 h k) = U e ⟨1024 + h.val, by omega⟩ k :=
    fun h k => (payload_up c XU 1 e h k).trans (hU1 e h k)
  have p2 : ∀ h k, payload (F := Ideal) c aD 0 XD e (ix4 0 0 h k) = D e ⟨h.val, by omega⟩ k :=
    fun h k => (payload_down c XD 0 e h k).trans (hD0 e h k)
  have p3 : ∀ h k, payload (F := Ideal) c aD 1 XD e (ix4 0 0 h k) = D e ⟨1024 + h.val, by omega⟩ k :=
    fun h k => (payload_down c XD 1 e h k).trans (hD1 e h k)
  generalize payload (F := Ideal) c aU 0 XU e = P0 at *
  generalize payload (F := Ideal) c aU 1 XU e = P1 at *
  generalize payload (F := Ideal) c aD 0 XD e = P2 at *
  generalize payload (F := Ideal) c aD 1 XD e = P3 at *
  rw [slotRead_eq, slotRead_eq, slotRead_eq, slotRead_eq]
  simp only [pay2_at, pay1_at, bias7_at c arg7 Y7 k e he, p0, p1, p2, p3]
  congr 3
  unfold lin
  rw [sum_halves]

include hU0 hU1 hD0 hD1 in
/-- After `n` trips the output holds the first `n` experts' terms. -/
theorem out_at (r0 : FVec Ideal S64x512 .f32) (t : Fin 64) (d : Fin 512) (n : ℕ) (hn : n ≤ 64) :
    outVal (F := Ideal) c XU XD arg7 arg8 (arg7.view.rep (Val := Elt Ideal) Y7) (arg8.view.rep (Val := Elt Ideal) Y8)
      v1 v48 v60 v62 v63 r0 n (ix2 t d)
      = r0 (ix2 t d) + ∑ e : Fin n, term Y7 Y8 U D v1 v48 v60 v62 v63 t d ⟨e.val, by omega⟩ := by
  induction n with
  | zero => simp [outVal]
  | succ n ih =>
    have ht : n < k0_t1_loop.trips := by rw [trips_eq]; omega
    rw [outVal, dif_pos ht, trip_at c XU XD arg7 arg8 Y7 Y8 U D hU0 hU1 hD0 hD1 v1 v48 v60 v62 v63 ⟨n, ht⟩ ⟨n, by omega⟩ rfl,
      ih (by omega), Fin.sum_univ_castSucc, add_assoc]
    rfl
end

section
variable (c : Dev nD) (XU : Buf (Elt Ideal) (aU.view.loc (c : Thread nD τ))) (XD : Buf (Elt Ideal) (aD.view.loc (c : Thread nD τ)))
  (arg0 : Memref sig .tc .vmem S64x512 .f32) (arg1 : Memref sig .tc .vmem S512x2048 .f32)
  (arg2 : Memref sig .tc .vmem S1x2048 .f32) (arg3 : Memref sig .tc .vmem S2048x2048 .f32)
  (arg4 : Memref sig .tc .vmem S1x2048 .f32) (arg5 : Memref sig .tc .vmem S2048x64 .f32)
  (arg6 : Memref sig .tc .vmem S1x64 .f32) (arg7 : Memref sig .tc .vmem S64x1x2048 .f32)
  (arg8 : Memref sig .tc .vmem S64x1x512 .f32)
  (Y0 : S64x512.Idx → EReal) (Y1 : S512x2048.Idx → EReal) (Y2 : S1x2048.Idx → EReal) (Y3 : S2048x2048.Idx → EReal)
  (Y4 : S1x2048.Idx → EReal) (Y5 : S2048x64.Idx → EReal) (Y6 : S1x64.Idx → EReal) (Y7 : S64x1x2048.Idx → EReal)
  (Y8 : S64x1x512.Idx → EReal) (U D : Fin 64 → Fin 2048 → Fin 512 → EReal)

/-- The gate network's score of expert `e` for token `t`, from the arrays the body holds. -/
def gate (t e : Fin 64) : EReal :=
  score (fun k p => Y1 (ix2 k p)) (fun p => Y2 (ix2 0 p)) (fun p n => Y3 (ix2 p n)) (fun n => Y4 (ix2 0 n))
    (fun n e => Y5 (ix2 n e)) (fun e => Y6 (ix2 0 e)) (fun k => Y0 (ix2 t k)) e

abbrev logits : FVec Ideal S64x64 .f32 := v33Of (F := Ideal) c arg0 arg1 arg2 arg3 arg4 arg5
  (arg0.view.rep (Val := Elt Ideal) Y0) (arg1.view.rep (Val := Elt Ideal) Y1) (arg2.view.rep (Val := Elt Ideal) Y2)
  (arg3.view.rep (Val := Elt Ideal) Y3) (arg4.view.rep (Val := Elt Ideal) Y4) (arg5.view.rep (Val := Elt Ideal) Y5)
abbrev lastBias : FVec Ideal S1x64 .f32 := v36Of (F := Ideal) c arg6 (arg6.view.rep (Val := Elt Ideal) Y6)

/-- The scores the body computes. -/
theorem scores_at (t e : Fin 64) :
    k0_pay8 (logits c arg0 arg1 arg2 arg3 arg4 arg5 Y0 Y1 Y2 Y3 Y4 Y5) (lastBias c arg6 Y6) (ix2 t e)
      = gate Y0 Y1 Y2 Y3 Y4 Y5 Y6 t e := by
  have h33 : logits c arg0 arg1 arg2 arg3 arg4 arg5 Y0 Y1 Y2 Y3 Y4 Y5 = k0_pay6 (F := Ideal) Y0 Y1 Y2 Y3 Y4 Y5 := by
    unfold logits v33Of
    rw [View.readAt_rep_full, View.readAt_rep_full, View.readAt_rep_full, View.readAt_rep_full, View.readAt_rep_full,
      View.readAt_rep_full]
  have h36 : lastBias c arg6 Y6 = k0_pay7 (F := Ideal) Y6 := by
    unfold lastBias v36Of
    rw [View.readAt_rep_full]
  rw [pay8_at, h33, h36, pay6_at, pay7_at]
  rfl

set_option maxHeartbeats 1000000 in
/-- The body's output at an entry. -/
theorem outOf_at
    (hU0 : ∀ e (h : Fin 1024) k, (XU : S64x2x1024x512.Idx → EReal) (ix4 e 0 h k) = U e ⟨h.val, by omega⟩ k)
    (hU1 : ∀ e (h : Fin 1024) k, (XU : S64x2x1024x512.Idx → EReal) (ix4 e 1 h k) = U e ⟨1024 + h.val, by omega⟩ k)
    (hD0 : ∀ e (h : Fin 1024) k, (XD : S64x2x1024x512.Idx → EReal) (ix4 e 0 h k) = D e ⟨h.val, by omega⟩ k)
    (hD1 : ∀ e (h : Fin 1024) k, (XD : S64x2x1024x512.Idx → EReal) (ix4 e 1 h k) = D e ⟨1024 + h.val, by omega⟩ k)
    (t : Fin 64) (d : Fin 512) {i j : Fin 64} (hi : Top1 (gate Y0 Y1 Y2 Y3 Y4 Y5 Y6 t) i) (hj : Top2 (gate Y0 Y1 Y2 Y3 Y4 Y5 Y6 t) i j) :
    outOf (F := Ideal) c XU XD arg0 arg1 arg2 arg3 arg4 arg5 arg6 arg7 arg8
      (arg0.view.rep (Val := Elt Ideal) Y0) (arg1.view.rep (Val := Elt Ideal) Y1) (arg2.view.rep (Val := Elt Ideal) Y2)
      (arg3.view.rep (Val := Elt Ideal) Y3) (arg4.view.rep (Val := Elt Ideal) Y4) (arg5.view.rep (Val := Elt Ideal) Y5)
      (arg6.view.rep (Val := Elt Ideal) Y6) (arg7.view.rep (Val := Elt Ideal) Y7) (arg8.view.rep (Val := Elt Ideal) Y8) (ix2 t d)
      = mix (gate Y0 Y1 Y2 Y3 Y4 Y5 Y6 t) (reply Y7 Y8 U D Y0 t d) i j := by
  have hs : (fun e => k0_pay8 (logits c arg0 arg1 arg2 arg3 arg4 arg5 Y0 Y1 Y2 Y3 Y4 Y5) (lastBias c arg6 Y6) (ix2 t e))
      = gate Y0 Y1 Y2 Y3 Y4 Y5 Y6 t := funext fun e => scores_at c arg0 arg1 arg2 arg3 arg4 arg5 arg6 Y0 Y1 Y2 Y3 Y4 Y5 Y6 t e
  have hi' := hi
  have hj' := hj
  rw [← hs] at hi' hj'
  have h10 := pay10_top hi'
  have h13 := pay13_top hi' hj'
  have h15 := pay15_top hi' hj'
  have h16 := pay16_top hi' hj'
  have hx : k0_pay5 (F := Ideal) (View.readAt (Elt Ideal) arg0.view (Rect.unit (s := S64x512) ![0, 0] S64x512.size inb_S64x512_S64x512_0_0).toLoadRect
      (arg0.view.rep (Val := Elt Ideal) Y0)) = Y0 := by
    rw [View.readAt_rep_full]
    funext y
    rw [eq_ix2 y]
    exact pay5_at Y0 _ _
  unfold outOf
  rw [hx, out_at c XU XD arg7 arg8 Y7 Y8 U D hU0 hU1 hD0 hD1 _ _ _ _ _ _ t d 64 le_rfl, pay17_at, zero_add]
  unfold term
  rw [h10, h13, h15, h16]
  simp only [word_inj, scores_at]
  rw [sum_mix _ hj.1]
  rfl
end

end Cert.Moe

end
-- ==== Proof.RefScore.lean ====
/-
  The reference's gate network, read at a token and an expert.
-/
module

public import proofs.«01_k».proof.Proof.Gen.ReferenceIdeal.Read
public import proofs.«01_k».proof.Proof.Model
public import Idealize.ShloMosaic.Lib.Pointwise

@[expose] public section

noncomputable section

namespace Cert.Moe

open Cert.ReferenceIdeal Cert.ReferenceIdeal.Gen Cert.ReferenceIdeal.Read
open Idealize.ShloMosaic
open scoped BigOperators

/-- The GELU by the complementary error function. -/
theorem gelu_erfc (t : EReal) :
    Ideal.ofBits .f32 0x3F000000#32 * t * Ideal.erfc (-t * Ideal.ofBits .f32 0x3F3504F3#32) = gelu t := by
  unfold gelu
  rw [EReal.neg_mul, Ideal.erfc_neg]

variable (x0 : S2x32x512.Idx → EReal) (x1 : S512x2048.Idx → EReal) (x2 : S2048.Idx → EReal)
  (x3 : S2048x2048.Idx → EReal) (x4 : S2048.Idx → EReal) (x5 : S2048x64.Idx → EReal) (x6 : S64.Idx → EReal)

theorem v3_at (b : Fin 2) (s : Fin 32) (p : Fin 2048) : val_main_v3 (F := Ideal) x0 x1 x2 (ix3 b s p)
    = lin (fun k : Fin 512 => x0 (ix3 b s k)) (fun k => x1 (ix2 k p)) (x2 (ix1 p)) := by
  have hl : ∀ k, lidx_main_v0 (ix3 b s p) k = ix3 b s k := fun k => funext fun a => by fin_cases a <;> rfl
  have hr : ∀ k, ridx_main_v0 (ix3 b s p) k = ix2 k p := fun k => funext fun a => by fin_cases a <;> rfl
  have hb : idx_main_v1 (idx_main_v2 (ix3 b s p)) = ix1 p := funext fun a => by fin_cases a <;> rfl
  rw [val_main_v3_apply, val_main_v0_apply, val_main_v2_apply, val_main_v1_apply, hb]
  simp only [hl, hr]
  rfl

theorem v10_at (b : Fin 2) (s : Fin 32) (p : Fin 2048) : val_main_v10 (F := Ideal) x0 x1 x2 (ix3 b s p)
    = gelu (lin (fun k : Fin 512 => x0 (ix3 b s k)) (fun k => x1 (ix2 k p)) (x2 (ix1 p))) := by
  rw [← v3_at, ← gelu_erfc]
  generalize ht : val_main_v3 (F := Ideal) x0 x1 x2 (ix3 b s p) = t
  rw [val_main_v10_apply, val_main_v5_apply, val_main_v9_apply, val_main_v8_apply, val_main_v6_apply, val_main_v4_apply,
    val_main_v7_apply, ht]
  rfl

theorem v14_at (b : Fin 2) (s : Fin 32) (n : Fin 2048) : val_main_v14 (F := Ideal) x0 x1 x2 x3 x4 (ix3 b s n)
    = lin (fun p : Fin 2048 => gelu (lin (fun k : Fin 512 => x0 (ix3 b s k)) (fun k => x1 (ix2 k p)) (x2 (ix1 p))))
        (fun p => x3 (ix2 p n)) (x4 (ix1 n)) := by
  have hl : ∀ k, lidx_main_v11 (ix3 b s n) k = ix3 b s k := fun k => funext fun a => by fin_cases a <;> rfl
  have hr : ∀ k, ridx_main_v11 (ix3 b s n) k = ix2 k n := fun k => funext fun a => by fin_cases a <;> rfl
  have hb : idx_main_v12 (idx_main_v13 (ix3 b s n)) = ix1 n := funext fun a => by fin_cases a <;> rfl
  rw [val_main_v14_apply, val_main_v11_apply, val_main_v13_apply, val_main_v12_apply, hb]
  simp only [hl, hr, v10_at]
  rfl

theorem v21_at (b : Fin 2) (s : Fin 32) (n : Fin 2048) : val_main_v21 (F := Ideal) x0 x1 x2 x3 x4 (ix3 b s n)
    = gelu (lin (fun p : Fin 2048 => gelu (lin (fun k : Fin 512 => x0 (ix3 b s k)) (fun k => x1 (ix2 k p)) (x2 (ix1 p))))
        (fun p => x3 (ix2 p n)) (x4 (ix1 n))) := by
  rw [← v14_at, ← gelu_erfc]
  generalize ht : val_main_v14 (F := Ideal) x0 x1 x2 x3 x4 (ix3 b s n) = t
  rw [val_main_v21_apply, val_main_v16_apply, val_main_v20_apply, val_main_v19_apply, val_main_v17_apply,
    val_main_v15_apply, val_main_v18_apply, ht]
  rfl

/-- The scores of the reference for token `(b, s)`. -/
def refScore (b : Fin 2) (s : Fin 32) (e : Fin 64) : EReal :=
  score (fun k p => x1 (ix2 k p)) (fun p => x2 (ix1 p)) (fun p n => x3 (ix2 p n)) (fun n => x4 (ix1 n))
    (fun n e => x5 (ix2 n e)) (fun e => x6 (ix1 e)) (fun k => x0 (ix3 b s k)) e

theorem v31_at (b : Fin 2) (s : Fin 32) (e : Fin 64) : val_main_v31 (F := Ideal) x0 x1 x2 x3 x4 x5 x6 (ix3 b s e)
    = refScore x0 x1 x2 x3 x4 x5 x6 b s e := by
  have hl : ∀ k, lidx_main_v22 (ix3 b s e) k = ix3 b s k := fun k => funext fun a => by fin_cases a <;> rfl
  have hr : ∀ k, ridx_main_v22 (ix3 b s e) k = ix2 k e := fun k => funext fun a => by fin_cases a <;> rfl
  have hb : idx_main_v23 (idx_main_v24 (ix3 b s e)) = ix1 e := funext fun a => by fin_cases a <;> rfl
  rw [val_main_v31_apply, val_main_v29_apply, val_main_v27_apply, val_main_v26_apply, val_main_v25_apply,
    val_main_v22_apply, val_main_v24_apply, val_main_v23_apply, hb, val_main_v30_apply, val_main_v28_apply,
    val_main_cst_4_apply, val_main_cst_3_apply]
  simp only [hl, hr, v21_at]
  unfold refScore score Ideal.logistic
  show Ideal.div (Ideal.ofBits .f32 0x3F800000#32) (Ideal.ofBits .f32 0x3F800000#32 + Ideal.exp _) = _
  rw [word_one]
  rfl

end Cert.Moe

end
-- ==== Proof.Gather.lean ====
/-
  The gather by which the reference takes an expert's array out of the stack of all experts' arrays, read at an entry.
-/
module

public import proofs.«01_k».proof.Proof.Gen.ReferenceIdeal
public import Idealize.ShloMosaic.Lib.Pointwise
public import Idealize.ShloMosaic.Lib.ValueIdx

@[expose] public section

noncomputable section

namespace Cert.Moe

open Cert.ReferenceIdeal Cert.ReferenceIdeal.Gen
open Idealize.ShloMosaic

/-- Taking whole `A × B` arrays out of a stack of 64, by two numbers for each of `2 × 32` tokens. -/
abbrev stackDims (A B : Nat)
    (wf : GatherDims.WF ⟨3, ![64, A, B]⟩ S2x32x2x1 ⟨5, ![2, 32, 2, A, B]⟩ [3, 4] [0] [] [0] [] 3 ![1, A, B]) :
    GatherDims ⟨3, ![64, A, B]⟩ S2x32x2x1 ⟨5, ![2, 32, 2, A, B]⟩ where
  offsetDims := [3, 4]
  collapsedSliceDims := [0]
  operandBatchingDims := []
  startIndicesBatchingDims := []
  startIndexMap := [0]
  indexVectorDim := 3
  sliceSizes := ![1, A, B]
  wf := wf

variable {α : Type}

/-- Where the number is an expert's, the entry is that expert's. -/
theorem gather_stack {A B : Nat}
    (wf : GatherDims.WF ⟨3, ![64, A, B]⟩ S2x32x2x1 ⟨5, ![2, 32, 2, A, B]⟩ [3, 4] [0] [] [0] [] 3 ![1, A, B])
    (x : (⟨3, ![64, A, B]⟩ : Shape).Idx → α) (idx : IVec S2x32x2x1 32) (b : Fin 2) (s : Fin 32) (q : Fin 2) (h : Fin A) (k : Fin B)
    (e : Fin 64) (he : idx (ix4 b s q 0) = BitVec.ofNat 32 e.val) :
    Host.gather (stackDims A B wf) x idx (ix5 b s q h k) = x (ix3 e h k) := by
  unfold Host.gather
  refine congrArg x (funext fun a => Fin.ext ?_)
  show (stackDims A B wf).start (ix5 b s q h k) idx a + (stackDims A B wf).batchCoord (ix5 b s q h k) a
      + (stackDims A B wf).offCoord (ix5 b s q h k) a = _
  rw [GatherDims.batchCoord_eq_zero _ _ _ (fun h => by simp at h)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (stackDims A B wf).startIndexMap from List.mem_singleton.mpr rfl)]
    have hsi : (stackDims A B wf).siIdx (ix5 b s q h k) ⟨List.idxOf (0 : Fin 3) (stackDims A B wf).startIndexMap,
        List.idxOf_lt_length_iff.2 (List.mem_singleton.mpr rfl)⟩ = ix4 b s q 0 := by
      funext c; refine Fin.ext ?_
      match c with
      | ⟨0, _⟩ => rfl
      | ⟨1, _⟩ => rfl
      | ⟨2, _⟩ => rfl
      | ⟨3, _⟩ => rfl
    rw [hsi, he]
    have hw : ∀ e : Fin 64, min (BitVec.ofNat 32 e.val).toInt.toNat (64 - 1) = e.val := by decide
    exact hw e
  · have h0 : (stackDims A B wf).start (ix5 b s q h k) idx 1 = 0 := by
      unfold GatherDims.start
      rw [dif_neg (fun h => by simp at h)]
    rw [h0]
    unfold GatherDims.offCoord
    rw [dif_pos ((GatherDims.mem_sKept _ _).mpr ⟨fun h => by simp at h, fun h => by simp at h⟩)]
    simp only [Nat.zero_add]
    rfl
  · have h0 : (stackDims A B wf).start (ix5 b s q h k) idx 2 = 0 := by
      unfold GatherDims.start
      rw [dif_neg (fun h => by simp at h)]
    rw [h0]
    unfold GatherDims.offCoord
    rw [dif_pos ((GatherDims.mem_sKept _ _).mpr ⟨fun h => by simp at h, fun h => by simp at h⟩)]
    simp only [Nat.zero_add]
    rfl

end Cert.Moe

end
-- ==== Proof.RefPick.lean ====
/-
  The two best experts as the reference finds them: its sorted scores and their positions, read at a token.
-/
module

public import proofs.«01_k».proof.Proof.RefScore
public import proofs.«01_k».proof.Proof.Gather
public import proofs.«01_k».proof.Proof.TopTwo

@[expose] public section

noncomputable section

namespace Cert.Moe

open Cert.ReferenceIdeal Cert.ReferenceIdeal.Gen Cert.ReferenceIdeal.Read
open Idealize.ShloMosaic
open scoped BigOperators

section
variable (y : S2x32x64.Idx → EReal) (b : Fin 2) (s : Fin 32) {i j : Fin 64}
  (hi : Top1 (fun e => y (ix3 b s e)) i) (hj : Top2 (fun e => y (ix3 b s e)) i j)

include hi hj in
/-- The sort's position `q` along the experts is the `q`-th best's. -/
theorem sorted_at (q : Fin 2) (J : S2x32x64.Idx) (h0 : J 0 = b) (h1 : J 1 = s) (h2 : J 2 = q.castLE (by decide : 2 ≤ 64)) :
    sortedFrom (fun k k' => FloatOps.cmpfTotal (F := Ideal) (φ := .f32) .gt (y (J.along 2 k)) (y (J.along 2 k')) == 1#1) (J 2)
      = ![i, j] q := by
  have ha : ∀ k : Fin 64, J.along 2 k = ix3 b s k := fun k => funext fun a => by
    fin_cases a
    · exact h0
    · exact h1
    · rfl
  have hb : (fun k k' : Fin 64 => FloatOps.cmpfTotal (F := Ideal) (φ := .f32) .gt (y (J.along 2 k)) (y (J.along 2 k')) == 1#1)
      = fun k k' => decide (y (ix3 b s k') < y (ix3 b s k)) := by
    funext k k'
    rw [ha, ha]
    by_cases h : y (ix3 b s k') < y (ix3 b s k)
    · simp [h, FloatOps.cmpfTotal, Ideal.cmpTotal, Ideal.cmp, CmpDirection.ordered]
    · simp [h, FloatOps.cmpfTotal, Ideal.cmpTotal, Ideal.cmp, CmpDirection.ordered]
  have hs := sortedFrom_top hi hj (by decide) q
  rw [← h2] at hs
  exact (congrArg (fun f => sortedFrom f (J 2)) hb).trans hs

/-- The sort read at an index. -/
theorem sort2_eq (idx : IVec S2x32x64 32) :
    Host.sort2 S2x32x64 2 (fun l r : EReal × BitVec 32 => FloatOps.cmpfTotal (F := Ideal) (φ := .f32) .gt l.1 r.1) y idx
      = (fun J => y (J.along 2 (sortedFrom (fun k k' => FloatOps.cmpfTotal (F := Ideal) (φ := .f32) .gt (y (J.along 2 k)) (y (J.along 2 k')) == 1#1) (J 2))),
        fun J => idx (J.along 2 (sortedFrom (fun k k' => FloatOps.cmpfTotal (F := Ideal) (φ := .f32) .gt (y (J.along 2 k)) (y (J.along 2 k')) == 1#1) (J 2)))) := by
  unfold Host.sort2
  rw [dif_pos (by decide)]
  rfl

/-- The place in the whole row that place `q` of the first two is. -/
abbrev front (q : Fin 2) : S2x32x64.Idx := ix3 b s (q.castLE (by decide : 2 ≤ 64))

theorem slice_at {α : Type} (v : S2x32x64.Idx → α) (q : Fin 2) :
    extractStridedSlice S2x32x2 (fun _ => 0) v sliceFits_S2x32x64_S2x32x2 (ix3 b s q) = v (front b s q) := by
  unfold extractStridedSlice
  refine congrArg v (funext fun a => ?_)
  fin_cases a
  · exact Fin.ext (Nat.zero_add _)
  · exact Fin.ext (Nat.zero_add _)
  · exact Fin.ext (Nat.zero_add _)

theorem along_at (b : Fin 2) (s : Fin 32) (e k : Fin 64) : (ix3 b s e : S2x32x64.Idx).along 2 k = ix3 b s k :=
  funext fun a => by fin_cases a <;> rfl

include hi hj in
/-- The `q`-th best score. -/
theorem topK_value (q : Fin 2) :
    (Host.topK S2x32x2 2 (FloatOps.cmpfTotal (F := Ideal) (φ := .f32) .gt) y sliceFits_S2x32x64_S2x32x2).1 (ix3 b s q)
      = y (ix3 b s (![i, j] q)) := by
  unfold Host.topK
  dsimp only
  rw [slice_at, sort2_eq]
  dsimp only
  rw [sorted_at y b s hi hj q (front b s q) rfl rfl rfl, along_at]

include hi hj in
/-- The `q`-th best expert. -/
theorem topK_index (q : Fin 2) :
    (Host.topK S2x32x2 2 (FloatOps.cmpfTotal (F := Ideal) (φ := .f32) .gt) y sliceFits_S2x32x64_S2x32x2).2 (ix3 b s q)
      = BitVec.ofNat 32 (![i, j] q).val := by
  unfold Host.topK
  dsimp only
  rw [slice_at, sort2_eq]
  dsimp only
  rw [sorted_at y b s hi hj q (front b s q) rfl rfl rfl, along_at, dif_pos (by decide)]
  rfl
end

end Cert.Moe

end
-- ==== Proof.RefValue.lean ====
/-
  What the reference computes at an entry: the mixture of the two best experts' answers.
-/
module

public import proofs.«01_k».proof.Proof.RefPick

@[expose] public section

noncomputable section

namespace Cert.Moe

open Cert.ReferenceIdeal Cert.ReferenceIdeal.Gen Cert.ReferenceIdeal.Read
open Idealize.ShloMosaic
open scoped BigOperators

/-- An expert's number is not negative, so the wrap of negative numbers keeps it. -/
theorem wrap_eq (e : Fin 64) :
    Scalar.select (IntOp.cmpi .slt (BitVec.ofNat 32 e.val) 0#32) (IntOp.addi (BitVec.ofNat 32 e.val) 64#32) (BitVec.ofNat 32 e.val)
      = BitVec.ofNat 32 e.val := by
  revert e; decide

variable (x0 : S2x32x512.Idx → EReal) (x1 : S512x2048.Idx → EReal) (x2 : S2048.Idx → EReal)
  (x3 : S2048x2048.Idx → EReal) (x4 : S2048.Idx → EReal) (x5 : S2048x64.Idx → EReal) (x6 : S64.Idx → EReal)
  (x7 x8 : S64x2048x512.Idx → EReal) (x9 : S64x2048x1.Idx → EReal) (x10 : S64x512x1.Idx → EReal)
  (b : Fin 2) (s : Fin 32) {i j : Fin 64}
  (hi : Top1 (refScore x0 x1 x2 x3 x4 x5 x6 b s) i) (hj : Top2 (refScore x0 x1 x2 x3 x4 x5 x6 b s) i j)

theorem scores_eq : (fun e => val_main_v31 (F := Ideal) x0 x1 x2 x3 x4 x5 x6 (ix3 b s e)) = refScore x0 x1 x2 x3 x4 x5 x6 b s :=
  funext fun e => v31_at x0 x1 x2 x3 x4 x5 x6 b s e

include hi hj

theorem values_at (q : Fin 2) : val_main_values (F := Ideal) x0 x1 x2 x3 x4 x5 x6 (ix3 b s q)
    = refScore x0 x1 x2 x3 x4 x5 x6 b s (![i, j] q) := by
  rw [← scores_eq] at hi hj
  rw [← v31_at]
  exact topK_value _ b s hi hj q

theorem indices_at (q : Fin 2) : val_main_indices (F := Ideal) x0 x1 x2 x3 x4 x5 x6 (ix3 b s q)
    = BitVec.ofNat 32 (![i, j] q).val := by
  rw [← scores_eq] at hi hj
  exact topK_index _ b s hi hj q

/-- A share: a value over the sum of the two. -/
theorem v35_at (q : Fin 2) : val_main_v35 (F := Ideal) x0 x1 x2 x3 x4 x5 x6 (ix3 b s q)
    = Ideal.div (refScore x0 x1 x2 x3 x4 x5 x6 b s (![i, j] q))
        (refScore x0 x1 x2 x3 x4 x5 x6 b s i + refScore x0 x1 x2 x3 x4 x5 x6 b s j) := by
  have hv : ∀ k, idx_main_v32 (idx_main_v33 (idx_main_v34 (ix3 b s q))) k = ix3 b s k :=
    fun k => funext fun a => by fin_cases a <;> rfl
  have hz : val_main_cst_5 (F := Ideal) (Shape.Idx.first h_S_) = (0 : EReal) := by
    rw [val_main_cst_5_apply]; exact Ideal.ofBits_zero .f32
  rw [val_main_v35_apply, val_main_v34_apply, val_main_v33_apply, val_main_v32_apply, hz]
  simp only [hv, values_at x0 x1 x2 x3 x4 x5 x6 b s hi hj]
  rw [Fin.sum_univ_two, zero_add]
  rfl

theorem v41_at (q : Fin 2) : val_main_v41 (F := Ideal) x0 x1 x2 x3 x4 x5 x6 (ix4 b s q 0) = BitVec.ofNat 32 (![i, j] q).val := by
  have hx : idx_main_v41 (ix4 b s q 0) = ix3 b s q := funext fun a => by fin_cases a <;> rfl
  rw [val_main_v41_apply, hx, val_main_v40_apply, val_main_v37_apply, val_main_v39_apply,
    indices_at x0 x1 x2 x3 x4 x5 x6 b s hi hj, val_main_v36_apply, val_main_v38_apply, val_main_c_apply, val_main_c_6_apply]
  exact wrap_eq _

theorem v48_at (q : Fin 2) : val_main_v48 (F := Ideal) x0 x1 x2 x3 x4 x5 x6 (ix4 b s q 0) = BitVec.ofNat 32 (![i, j] q).val := by
  have hx : idx_main_v48 (ix4 b s q 0) = ix3 b s q := funext fun a => by fin_cases a <;> rfl
  rw [val_main_v48_apply, hx, val_main_v47_apply, val_main_v44_apply, val_main_v46_apply,
    indices_at x0 x1 x2 x3 x4 x5 x6 b s hi hj, val_main_v43_apply, val_main_v45_apply, val_main_c_7_apply, val_main_c_8_apply]
  exact wrap_eq _

theorem v55_at (q : Fin 2) : val_main_v55 (F := Ideal) x0 x1 x2 x3 x4 x5 x6 (ix4 b s q 0) = BitVec.ofNat 32 (![i, j] q).val := by
  have hx : idx_main_v55 (ix4 b s q 0) = ix3 b s q := funext fun a => by fin_cases a <;> rfl
  rw [val_main_v55_apply, hx, val_main_v54_apply, val_main_v51_apply, val_main_v53_apply,
    indices_at x0 x1 x2 x3 x4 x5 x6 b s hi hj, val_main_v50_apply, val_main_v52_apply, val_main_c_9_apply, val_main_c_10_apply]
  exact wrap_eq _

theorem v62_at (q : Fin 2) : val_main_v62 (F := Ideal) x0 x1 x2 x3 x4 x5 x6 (ix4 b s q 0) = BitVec.ofNat 32 (![i, j] q).val := by
  have hx : idx_main_v62 (ix4 b s q 0) = ix3 b s q := funext fun a => by fin_cases a <;> rfl
  rw [val_main_v62_apply, hx, val_main_v61_apply, val_main_v58_apply, val_main_v60_apply,
    indices_at x0 x1 x2 x3 x4 x5 x6 b s hi hj, val_main_v57_apply, val_main_v59_apply, val_main_c_11_apply, val_main_c_12_apply]
  exact wrap_eq _

theorem v42_at (q : Fin 2) (h : Fin 2048) (k : Fin 512) :
    val_main_v42 (F := Ideal) x0 x1 x2 x3 x4 x5 x6 x7 (ix5 b s q h k) = x7 (ix3 (![i, j] q) h k) :=
  gather_stack (A := 2048) (B := 512) _ x7 _ b s q h k _ (v41_at x0 x1 x2 x3 x4 x5 x6 b s hi hj q)

theorem v49_at (q : Fin 2) (h : Fin 2048) (k : Fin 512) :
    val_main_v49 (F := Ideal) x0 x1 x2 x3 x4 x5 x6 x8 (ix5 b s q h k) = x8 (ix3 (![i, j] q) h k) :=
  gather_stack (A := 2048) (B := 512) _ x8 _ b s q h k _ (v48_at x0 x1 x2 x3 x4 x5 x6 b s hi hj q)

theorem v56_at (q : Fin 2) (h : Fin 2048) :
    val_main_v56 (F := Ideal) x0 x1 x2 x3 x4 x5 x6 x9 (ix5 b s q h 0) = x9 (ix3 (![i, j] q) h 0) :=
  gather_stack (A := 2048) (B := 1) _ x9 _ b s q h 0 _ (v55_at x0 x1 x2 x3 x4 x5 x6 b s hi hj q)

theorem v63_at (q : Fin 2) (d : Fin 512) :
    val_main_v63 (F := Ideal) x0 x1 x2 x3 x4 x5 x6 x10 (ix5 b s q d 0) = x10 (ix3 (![i, j] q) d 0) :=
  gather_stack (A := 512) (B := 1) _ x10 _ b s q d 0 _ (v62_at x0 x1 x2 x3 x4 x5 x6 b s hi hj q)

omit hi hj in
theorem v65_at (k : Fin 512) : val_main_v65 (F := Ideal) x0 (ix4 b s k 0) = x0 (ix3 b s k) := by
  rw [val_main_v65_apply, val_main_v64_apply]
  refine congrArg x0 (funext fun a => Fin.ext ?_)
  have h0 := b.isLt
  have h1 := s.isLt
  have h2 := k.isLt
  fin_cases a
  · show (((b.val * 32 + s.val) * 512 + k.val) * 1 + 0) / 16384 = b.val; omega
  · show (((b.val * 32 + s.val) * 512 + k.val) * 1 + 0) / 512 % 32 = s.val; omega
  · show (((b.val * 32 + s.val) * 512 + k.val) * 1 + 0) / 1 % 512 = k.val; omega

theorem v67_at (q : Fin 2) (h : Fin 2048) : val_main_v67 (F := Ideal) x0 x1 x2 x3 x4 x5 x6 x7 x9 (ix5 b s q h 0)
    = lin (fun k : Fin 512 => x0 (ix3 b s k)) (fun k => x7 (ix3 (![i, j] q) h k)) (x9 (ix3 (![i, j] q) h 0)) := by
  have hl : ∀ k, lidx_main_v66 (ix5 b s q h 0) k = ix5 b s q h k := fun k => funext fun a => by fin_cases a <;> rfl
  have hr : ∀ k, ridx_main_v66 (ix5 b s q h 0) k = ix4 b s k 0 := fun k => funext fun a => by fin_cases a <;> rfl
  rw [val_main_v67_apply, val_main_v66_apply, v56_at x0 x1 x2 x3 x4 x5 x6 x9 b s hi hj]
  simp only [hl, hr, v42_at x0 x1 x2 x3 x4 x5 x6 x7 b s hi hj, v65_at]
  unfold lin
  simp only [mul_comm (x7 _)]
  rfl

theorem v74_at (q : Fin 2) (h : Fin 2048) : val_main_v74 (F := Ideal) x0 x1 x2 x3 x4 x5 x6 x7 x9 (ix5 b s q h 0)
    = gelu (lin (fun k : Fin 512 => x0 (ix3 b s k)) (fun k => x7 (ix3 (![i, j] q) h k)) (x9 (ix3 (![i, j] q) h 0))) := by
  rw [← v67_at x0 x1 x2 x3 x4 x5 x6 x7 x9 b s hi hj, ← gelu_erfc]
  generalize ht : val_main_v67 (F := Ideal) x0 x1 x2 x3 x4 x5 x6 x7 x9 (ix5 b s q h 0) = t
  rw [val_main_v74_apply, val_main_v69_apply, val_main_v73_apply, val_main_v72_apply, val_main_v70_apply,
    val_main_v68_apply, val_main_v71_apply, ht]
  rfl

/-- Expert `e`'s answer for token `(b, s)` at feature `d`. -/
def refAnswer (d : Fin 512) (e : Fin 64) : EReal :=
  answer (fun h k => x7 (ix3 e h k)) (fun h => x9 (ix3 e h 0)) (fun h d => x8 (ix3 e h d)) (fun d => x10 (ix3 e d 0))
    (fun k => x0 (ix3 b s k)) d

theorem v77_at (q : Fin 2) (d : Fin 512) : val_main_v77 (F := Ideal) x0 x1 x2 x3 x4 x5 x6 x7 x8 x9 x10 (ix5 b s q d 0)
    = lin (fun h : Fin 2048 => gelu (lin (fun k : Fin 512 => x0 (ix3 b s k)) (fun k => x7 (ix3 (![i, j] q) h k)) (x9 (ix3 (![i, j] q) h 0))))
        (fun h => x8 (ix3 (![i, j] q) h d)) (x10 (ix3 (![i, j] q) d 0)) := by
  have hl : ∀ k, idx_main_v75 (lidx_main_v76 (ix5 b s q d 0) k) = ix5 b s q k d := fun k => funext fun a => by fin_cases a <;> rfl
  have hr : ∀ k, ridx_main_v76 (ix5 b s q d 0) k = ix5 b s q k 0 := fun k => funext fun a => by fin_cases a <;> rfl
  rw [val_main_v77_apply, val_main_v76_apply, v63_at x0 x1 x2 x3 x4 x5 x6 x10 b s hi hj]
  simp only [val_main_v75_apply, hl, hr, v49_at x0 x1 x2 x3 x4 x5 x6 x8 b s hi hj, v74_at x0 x1 x2 x3 x4 x5 x6 x7 x9 b s hi hj]
  rw [lin]
  simp only [mul_comm (x8 _)]
  rfl

theorem v84_at (q : Fin 2) (d : Fin 512) : val_main_v84 (F := Ideal) x0 x1 x2 x3 x4 x5 x6 x7 x8 x9 x10 (ix5 b s q d 0)
    = refAnswer x0 x7 x8 x9 x10 b s d (![i, j] q) := by
  unfold refAnswer answer
  rw [← v77_at x0 x1 x2 x3 x4 x5 x6 x7 x8 x9 x10 b s hi hj, ← gelu_erfc]
  generalize ht : val_main_v77 (F := Ideal) x0 x1 x2 x3 x4 x5 x6 x7 x8 x9 x10 (ix5 b s q d 0) = t
  rw [val_main_v84_apply, val_main_v79_apply, val_main_v83_apply, val_main_v82_apply, val_main_v80_apply,
    val_main_v78_apply, val_main_v81_apply, ht]
  rfl

omit hi hj in
theorem idx85_eq (q : Fin 2) (d : Fin 512) : idx_main_v85 (ix4 b s q d) = ix5 b s q d 0 := by
  refine funext fun a => Fin.ext ?_
  have h0 := b.isLt
  have h1 := s.isLt
  have h2 := q.isLt
  have h3 := d.isLt
  fin_cases a
  · show (((b.val * 32 + s.val) * 2 + q.val) * 512 + d.val) / 32768 = b.val; omega
  · show (((b.val * 32 + s.val) * 2 + q.val) * 512 + d.val) / 1024 % 32 = s.val; omega
  · show (((b.val * 32 + s.val) * 2 + q.val) * 512 + d.val) / 512 % 2 = q.val; omega
  · show (((b.val * 32 + s.val) * 2 + q.val) * 512 + d.val) / 1 % 512 = d.val; omega
  · rfl

/-- The reference's result at an entry. -/
theorem v89_at (d : Fin 512) : val_main_v89 (F := Ideal) x0 x1 x2 x3 x4 x5 x6 x7 x8 x9 x10 (ix3 b s d)
    = mix (refScore x0 x1 x2 x3 x4 x5 x6 b s) (refAnswer x0 x7 x8 x9 x10 b s d) i j := by
  have hx : ∀ q, idx_main_v89 (ix3 b s d) q = ix4 b s q d := fun q => funext fun a => by fin_cases a <;> rfl
  have hw : ∀ q, idx_main_v86 (idx_main_v87 (ix4 b s q d)) = ix3 b s q := fun q => funext fun a => by fin_cases a <;> rfl
  have hz : val_main_cst_17 (F := Ideal) (Shape.Idx.first h_S_) = (0 : EReal) := by
    rw [val_main_cst_17_apply]; exact Ideal.ofBits_zero .f32
  have ht : ∀ q, val_main_v88 (F := Ideal) x0 x1 x2 x3 x4 x5 x6 x7 x8 x9 x10 (ix4 b s q d)
      = Ideal.div (refScore x0 x1 x2 x3 x4 x5 x6 b s (![i, j] q))
          (refScore x0 x1 x2 x3 x4 x5 x6 b s i + refScore x0 x1 x2 x3 x4 x5 x6 b s j)
        * refAnswer x0 x7 x8 x9 x10 b s d (![i, j] q) := fun q => by
    rw [val_main_v88_apply, val_main_v85_apply, idx85_eq, v84_at x0 x1 x2 x3 x4 x5 x6 x7 x8 x9 x10 b s hi hj,
      val_main_v87_apply, val_main_v86_apply, hw, v35_at x0 x1 x2 x3 x4 x5 x6 b s hi hj]
    exact mul_comm _ _
  rw [val_main_v89_apply, hz, zero_add]
  simp only [hx, ht]
  rw [Fin.sum_univ_two]
  rfl

end Cert.Moe

end
-- ==== Proof.Equation.lean ====
/-
  The kernel's result is the reference's, on every argument: both are the same mixture of the two best experts.
-/
module

public import proofs.«01_k».proof.Proof.Arrays
public import proofs.«01_k».proof.Proof.KernelValue
public import proofs.«01_k».proof.Proof.RefValue

@[expose] public section

set_option backward.proofsInPublic true

noncomputable section

namespace Cert.Moe

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The row of token `(b, s)`. -/
abbrev row (b : Fin 2) (s : Fin 32) : Fin 64 := ⟨32 * b.val + s.val, by omega⟩

/-- The two programs score alike. -/
theorem gate_eq (b : Fin 2) (s : Fin 32) :
    gate (iblk (F := Ideal) m c 0 t0_0) (iblk (F := Ideal) m c 1 t0_0) (iblk (F := Ideal) m c 2 t0_0) (iblk (F := Ideal) m c 3 t0_0)
      (iblk (F := Ideal) m c 4 t0_0) (iblk (F := Ideal) m c 5 t0_0) (iblk (F := Ideal) m c 6 t0_0) (row b s)
      = refScore (A0 m c) (A1 m c) (A2 m c) (A3 m c) (A4 m c) (A5 m c) (A6 m c) b s := by
  funext e
  unfold gate refScore
  have h0 := fun k => x_at m c b s k
  have h1 := fun k p => w1_at m c k p
  have h2 := fun p => b1_at m c p
  have h3 := fun p n => w2_at m c p n
  have h4 := fun n => b2_at m c n
  have h5 := fun n e => w3_at m c n e
  have h6 := fun e => b3_at m c e
  simp only [h0, h1, h2, h3, h4, h5, h6]

/-- The experts answer alike. -/
theorem reply_eq (b : Fin 2) (s : Fin 32) (d : Fin 512) :
    reply (iblk (F := Ideal) m c 7 t0_0) (iblk (F := Ideal) m c 8 t0_0) (fun e h k => A7 m c (ix3 e h k)) (fun e h k => A8 m c (ix3 e h k))
      (iblk (F := Ideal) m c 0 t0_0) (row b s) d
      = refAnswer (A0 m c) (A7 m c) (A8 m c) (A9 m c) (A10 m c) b s d := by
  funext e
  unfold reply refAnswer
  have h0 := fun k => x_at m c b s k
  have h7 := fun e h => eb1_at m c e h
  have h8 := fun e d => eb2_at m c e d
  simp only [h0, h7, h8]

/-- The equation at an entry. -/
theorem results_at (b : Fin 2) (s : Fin 32) (d : Fin 512) :
    (shapeCast S2x32x512 (outAt (F := Ideal) m c t0_0) shapeCasts_S64x512_S2x32x512 : S2x32x512.Idx → EReal) (ix3 b s d)
      = Cert.ReferenceIdeal.Read.val_main_v89 (F := Ideal) (A0 m c) (A1 m c) (A2 m c) (A3 m c) (A4 m c) (A5 m c) (A6 m c) (A7 m c)
          (A8 m c) (A9 m c) (A10 m c) (ix3 b s d) := by
  obtain ⟨i, j, hi, hj⟩ := exists_top (refScore (A0 m c) (A1 m c) (A2 m c) (A3 m c) (A4 m c) (A5 m c) (A6 m c) b s) (by decide)
  refine Eq.trans ?_ (v89_at (A0 m c) (A1 m c) (A2 m c) (A3 m c) (A4 m c) (A5 m c) (A6 m c) (A7 m c) (A8 m c) (A9 m c) (A10 m c)
    b s hi hj d).symm
  rw [← gate_eq] at hi hj
  rw [← gate_eq, ← reply_eq]
  refine (result_at _ b s d).trans ?_
  exact outOf_at c (XU m c) (XD m c) (st0 t0_0) (st1 t0_0) (st2 t0_0) (st3 t0_0) (st4 t0_0) (st5 t0_0) (st6 t0_0) (st7 t0_0)
    (st8 t0_0) (iblk (F := Ideal) m c 0 t0_0) (iblk (F := Ideal) m c 1 t0_0) (iblk (F := Ideal) m c 2 t0_0)
    (iblk (F := Ideal) m c 3 t0_0) (iblk (F := Ideal) m c 4 t0_0) (iblk (F := Ideal) m c 5 t0_0) (iblk (F := Ideal) m c 6 t0_0)
    (iblk (F := Ideal) m c 7 t0_0) (iblk (F := Ideal) m c 8 t0_0) (fun e h k => A7 m c (ix3 e h k)) (fun e h k => A8 m c (ix3 e h k))
    (up0_at m c) (up1_at m c) (down0_at m c) (down1_at m c) (row b s) d hi hj

/-- The equation. -/
theorem results_eq :
    (shapeCast S2x32x512 (outAt (F := Ideal) m c t0_0) shapeCasts_S64x512_S2x32x512 : S2x32x512.Idx → EReal)
      = Cert.ReferenceIdeal.Read.val_main_v89 (F := Ideal) (A0 m c) (A1 m c) (A2 m c) (A3 m c) (A4 m c) (A5 m c) (A6 m c) (A7 m c)
          (A8 m c) (A9 m c) (A10 m c) := by
  funext y
  rw [eq_ix3 y]
  exact results_at m c (y 0) (y 1) (y 2)

end Cert.Moe

end
-- ==== Proof.lean ====
/-
  The proof of `Cert.Claim`: the five claims, each from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.ShloMosaic.Tactic Idealize.SL.Sem Cert.Kernel

theorem frame_reference : Cert.quiescent_ReferenceIdeal := by
  intro m g _
  exact θ_run_mono (Cert.ReferenceIdeal.Value.run m g) fun r h =>
    ⟨fun c => (h c).2, funext fun s => by
      obtain ⟨_, s⟩ := s
      rcases s with s | s <;> exact s.elim0⟩

/-- What the reference leaves in its result, by its stages. -/
theorem reference_result (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v89)
          = Cert.ReferenceIdeal.Read.val_main_v89 (F := Ideal)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))) :=
  θ_run_mono (Cert.ReferenceIdeal.Value.run m g) fun _ h c =>
    (h c).1.trans (Cert.ReferenceIdeal.Read.val_main_v89_eq (F := Ideal) (StableHlo.launchContents m c))

/-- Over the extended reals the kernel computes what the reference computes. -/
theorem algebraic : Cert.algebraic_KernelIdeal_ReferenceIdeal := by
  intro m g m' g' _ hagree
  refine ⟨fun c => shapeCast Cert.KernelIdeal.S2x32x512 (Cert.Moe.outAt (F := Ideal) m c Cert.KernelIdeal.Gen.t0_0)
    Cert.KernelIdeal.Gen.shapeCasts_S64x512_S2x32x512, ?_, ?_⟩
  · exact θ_run_mono (Cert.Moe.run_post m g) fun r h c => ⟨Cert.Moe.result_of m r h.1 c, Cert.Moe.args_of m r h.1 c⟩
  · refine θ_run_mono (θ_run_and (reference_result m' g') (Cert.ReferenceIdeal.Value.run m' g')) fun r h c => ⟨?_, (h.2 c).2⟩
    obtain ⟨e0, e1, e2, e3, e4, e5, e6, e7, e8, e9, e10⟩ := hagree c
    refine (h.1 c).trans ?_
    rw [e0, e1, e2, e3, e4, e5, e6, e7, e8, e9, e10]
    exact (Cert.Moe.results_eq m c).symm

theorem claim : Cert.Claim := ⟨Cert.Kernel.Gen.facts, Cert.KernelIdeal.Gen.facts, Cert.ReferenceIdeal.Gen.facts,
  Cert.Moe.frame_kernel, Cert.Moe.frame_ideal, frame_reference, trivial, algebraic⟩

end Cert.Proof

end
